-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_selects_k [hPre_selects_k : Cert.Pre_selects_k.Facts] (m : (ℓ : Loc Cert.KernelIdeal.nD Cert.KernelIdeal.τ Cert.KernelIdeal.sig) → Buf (Elt Ideal) ℓ) : Prop :=
  ∀ c : Dev Cert.KernelIdeal.nD,
    (Cert.Pre_selects_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_selects_k [hPre_selects_k : Cert.Pre_selects_k.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_selects_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_selects_k [hKernelIdeal : Cert.KernelIdeal.Facts] [hPre_selects_k : Cert.Pre_selects_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_selects_k m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_selects_k [hReferenceIdeal : Cert.ReferenceIdeal.Facts] [hPre_selects_k : Cert.Pre_selects_k.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_selects_k m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_selects_k [hKernelIdeal : Cert.KernelIdeal.Facts] [hReferenceIdeal : Cert.ReferenceIdeal.Facts] [hPre_selects_k : Cert.Pre_selects_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_selects_k m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)) (v2 : (c : Dev Cert.KernelIdeal.nD) → Buf (Elt Ideal) ((c.tc : Thread Cert.KernelIdeal.nD Cert.KernelIdeal.τ).loc Cert.KernelIdeal.main_v65_2)) (v3 : (c : Dev Cert.KernelIdeal.nD) → Buf (Elt Ideal) ((c.tc : Thread Cert.KernelIdeal.nD Cert.KernelIdeal.τ).loc Cert.KernelIdeal.main_v65_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_v65_2) = v2 c
          ∧ r.2.mem ((c.tc : Thread Cert.KernelIdeal.nD Cert.KernelIdeal.τ).loc Cert.KernelIdeal.main_v65_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27_6) = v0 c
          ∧ r.2.mem ((c.tc : Thread Cert.ReferenceIdeal.nD Cert.ReferenceIdeal.τ).loc Cert.ReferenceIdeal.main_v27_7) = v1 c
          ∧ r.2.mem ((c.tc : Thread Cert.ReferenceIdeal.nD Cert.ReferenceIdeal.τ).loc Cert.ReferenceIdeal.main_v27_8) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_selects_k : Cert.Pre_selects_k.Facts),
    quiescent_Kernel (hKernel := hKernel)
    ∧ quiescent_KernelIdeal (hKernelIdeal := hKernelIdeal)
    ∧ quiescent_KernelIdeal_pre_selects_k (hKernelIdeal := hKernelIdeal) (hPre_selects_k := hPre_selects_k)
    ∧ quiescent_ReferenceIdeal (hReferenceIdeal := hReferenceIdeal)
    ∧ quiescent_ReferenceIdeal_pre_selects_k (hReferenceIdeal := hReferenceIdeal) (hPre_selects_k := hPre_selects_k)
    ∧ preserves_Kernel_KernelIdeal
    ∧ algebraic_KernelIdeal_ReferenceIdeal_pre_selects_k (hKernelIdeal := hKernelIdeal) (hReferenceIdeal := hReferenceIdeal) (hPre_selects_k := hPre_selects_k)
-- ==== Pre_selects_k.lean ====
abbrev S1x20000x4 : Shape := ⟨3, ![1, 20000, 4]⟩
abbrev S1x20000x80 : Shape := ⟨3, ![1, 20000, 80]⟩
abbrev S1 : Shape := ⟨1, ![1]⟩
abbrev S1600000 : Shape := ⟨1, ![1600000]⟩
abbrev S_ : Shape := ⟨0, ![]⟩

class Facts : Prop where
  shapeCasts_S1x20000x80_S1600000 : S1x20000x80.ShapeCasts S1600000
  bcast_S_S1600000 : S_.BroadcastsInDim S1600000 (![] : Fin 0 → Fin S1600000.rank)
  bcast_S1_S1600000_0 : S1.BroadcastsInDim S1600000 (![0] : Fin 1 → Fin S1600000.rank)
  natLt_1_32 : 1 < 32
  reducesTo_S1600000_S_d0 : S1600000.ReducesTo [0] S_
  h_S_ : 0 < S_.numel
  bcast_S_S1 : S_.BroadcastsInDim S1 (![] : Fin 0 → Fin S1.rank)

variable [Facts]

def fn {F : FTy → Type} [FloatOps F] (main_arg0 : FVec F S1x20000x4 .f32) (main_arg1 : FVec F S1x20000x80 .f32) (main_arg2 : FVec F S1 .f32) (main_arg3 : IVec S1 32) : IVec S1 1 :=
  let main_v0 : FVec F S1600000 .f32 := shapeCast S1600000 main_arg1 shapeCasts_S1x20000x80_S1600000
  let main_cst : FVec F S_ .f32 := constant S_ .f32 0x3D4CCCCD#32
  let main_v1 : FVec F S1600000 .f32 := broadcastInDim S1600000 ![] bcast_S_S1600000 main_cst
  let main_v2 : IVec S1600000 1 := cmpf .oge main_v0 main_v1
  let main_cst_0 : FVec F S_ .f32 := constant S_ .f32 0xBF800000#32
  let main_v3 : FVec F S1600000 .f32 := broadcastInDim S1600000 ![] bcast_S_S1600000 main_cst_0
  let main_v4 : FVec F S1600000 .f32 := select main_v2 main_v0 main_v3
  let main_v5 : IVec S1600000 32 := iotaInDim S1600000 32 0
  let main_v6 : FVec F S1600000 .f32 := broadcastInDim S1600000 ![0] bcast_S1_S1600000_0 main_arg2
  let main_v7 : IVec S1600000 1 := cmpf .ogt main_v4 main_v6
  let main_v8 : FVec F S1600000 .f32 := broadcastInDim S1600000 ![0] bcast_S1_S1600000_0 main_arg2
  let main_v9 : IVec S1600000 1 := cmpf .oeq main_v4 main_v8
  let main_v10 : IVec S1600000 32 := broadcastInDim S1600000 ![0] bcast_S1_S1600000_0 main_arg3
  let main_v11 : IVec S1600000 1 := cmpi .slt main_v5 main_v10
  let main_v12 : IVec S1600000 1 := andi main_v9 main_v11
  let main_v13 : IVec S1600000 1 := ori main_v7 main_v12
  let main_v14 : IVec S1600000 32 := (extui 32 · natLt_1_32) main_v13
  let main_c : IVec S_ 32 := constantI S_ 32 0#32
  let main_v15 : IVec S_ 32 := (fun x v => Host.reduce IntOp.addi x v reducesTo_S1600000_S_d0 h_S_) main_v14 main_c
  let main_v16 : IVec S1 32 := broadcastInDim S1 ![] bcast_S_S1 main_v15
  let main_c_1 : IVec S_ 32 := constantI S_ 32 4096#32
  let main_v17 : IVec S1 32 := broadcastInDim S1 ![] bcast_S_S1 main_c_1
  let main_v18 : IVec S1 1 := cmpi .eq main_v16 main_v17
  main_v18
-- ==== Kernel.lean ====
abbrev S1x20000x4 : Shape := ⟨3, ![1, 20000, 4]⟩
abbrev S1x20000x80 : Shape := ⟨3, ![1, 20000, 80]⟩
abbrev S1 : Shape := ⟨1, ![1]⟩
abbrev S20000x4 : Shape := ⟨2, ![20000, 4]⟩
abbrev S20000x80 : Shape := ⟨2, ![20000, 80]⟩
abbrev S1600000 : Shape := ⟨1, ![1600000]⟩
abbrev S_ : Shape := ⟨0, ![]⟩
abbrev S4097 : Shape := ⟨1, ![4097]⟩
abbrev S1600000x1 : Shape := ⟨2, ![1600000, 1]⟩
abbrev S4096 : Shape := ⟨1, ![4096]⟩
abbrev S4096x1 : Shape := ⟨2, ![4096, 1]⟩
abbrev S1x1 : Shape := ⟨2, ![1, 1]⟩
abbrev S4096x4 : Shape := ⟨2, ![4096, 4]⟩
abbrev S4096x8 : Shape := ⟨2, ![4096, 8]⟩
abbrev S1x4096 : Shape := ⟨2, ![1, 4096]⟩
abbrev S625x128 : Shape := ⟨2, ![625, 128]⟩
abbrev S300x4 : Shape := ⟨2, ![300, 4]⟩
abbrev S300 : Shape := ⟨1, ![300]⟩
abbrev S128x1 : Shape := ⟨2, ![128, 1]⟩
abbrev S128x4096 : Shape := ⟨2, ![128, 4096]⟩
abbrev S128 : Shape := ⟨1, ![128]⟩
abbrev S1x128 : Shape := ⟨2, ![1, 128]⟩
abbrev S4096x128 : Shape := ⟨2, ![4096, 128]⟩
abbrev S128x8 : Shape := ⟨2, ![128, 8]⟩
abbrev S32x128 : Shape := ⟨2, ![32, 128]⟩
abbrev S1x625x128 : Shape := ⟨3, ![1, 625, 128]⟩
abbrev S1x1x1 : Shape := ⟨3, ![1, 1, 1]⟩
abbrev S1x32x128 : Shape := ⟨3, ![1, 32, 128]⟩

abbrev nBuf : Space → Nat
  | .hbm => 129
  | .vmem => 6
  | .smem => 4
  | _ => 0

abbrev hbmTy0_0 (i : Nat) : BufTy := match i % 128 with
  | 0 => ⟨S1x20000x4, .f32⟩
  | 1 => ⟨S1x20000x80, .f32⟩
  | 2 => ⟨S1, .f32⟩
  | 3 => ⟨S1, .i32⟩
  | 4 => ⟨S20000x4, .f32⟩
  | 5 => ⟨S20000x80, .f32⟩
  | 6 => ⟨S1600000, .f32⟩
  | 7 => ⟨S_, .f32⟩
  | 8 => ⟨S1600000, .f32⟩
  | 9 => ⟨S1600000, .i1⟩
  | 10 => ⟨S_, .f32⟩
  | 11 => ⟨S_, .f32⟩
  | 12 => ⟨S1600000, .f32⟩
  | 13 => ⟨S1600000, .f32⟩
  | 14 => ⟨S1600000, .i32⟩
  | 15 => ⟨S_, .f32⟩
  | 16 => ⟨S1600000, .f32⟩
  | 17 => ⟨S1600000, .i1⟩
  | 18 => ⟨S_, .f32⟩
  | 19 => ⟨S1600000, .f32⟩
  | 20 => ⟨S1600000, .i1⟩
  | 21 => ⟨S_, .i32⟩
  | 22 => ⟨S1600000, .i32⟩
  | 23 => ⟨S1600000, .i1⟩
  | 24 => ⟨S1600000, .i1⟩
  | 25 => ⟨S1600000, .i1⟩
  | 26 => ⟨S1600000, .i32⟩
  | 27 => ⟨S_, .i32⟩
  | 28 => ⟨S_, .i32⟩
  | 29 => ⟨S1600000, .i32⟩
  | 30 => ⟨S_, .i32⟩
  | 31 => ⟨S1600000, .i32⟩
  | 32 => ⟨S1600000, .i32⟩
  | 33 => ⟨S_, .i32⟩
  | 34 => ⟨S_, .i32⟩
  | 35 => ⟨S1600000, .i32⟩
  | 36 => ⟨S1600000, .i32⟩
  | 37 => ⟨S_, .f32⟩
  | 38 => ⟨S4097, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S4097, .f32⟩
  | 48 => ⟨S4096, .f32⟩
  | 49 => ⟨S_, .i32⟩
  | 50 => ⟨S4097, .i32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S4097, .i32⟩
  | 60 => ⟨S4096, .i32⟩
  | 61 => ⟨S_, .i32⟩
  | 62 => ⟨S_, .i32⟩
  | 63 => ⟨S4096, .i32⟩
  | 64 => ⟨S4096, .i32⟩
  | 65 => ⟨S4096, .i32⟩
  | 66 => ⟨S_, .i32⟩
  | 67 => ⟨S4096, .i32⟩
  | 68 => ⟨S4096, .i1⟩
  | 69 => ⟨S4096, .i32⟩
  | 70 => ⟨S4096, .i32⟩
  | 71 => ⟨S_, .i32⟩
  | 72 => ⟨S4096, .i32⟩
  | 73 => ⟨S4096, .i1⟩
  | 74 => ⟨S4096, .i1⟩
  | 75 => ⟨S_, .i32⟩
  | 76 => ⟨S4096, .i32⟩
  | 77 => ⟨S4096, .i32⟩
  | 78 => ⟨S4096, .i32⟩
  | 79 => ⟨S_, .i32⟩
  | 80 => ⟨S4096, .i32⟩
  | 81 => ⟨S4096, .i1⟩
  | 82 => ⟨S_, .i32⟩
  | 83 => ⟨S4096, .i32⟩
  | 84 => ⟨S4096, .i32⟩
  | 85 => ⟨S4096, .i32⟩
  | 86 => ⟨S4096x1, .i32⟩
  | 87 => ⟨S1, .i32⟩
  | 88 => ⟨S_, .i32⟩
  | 89 => ⟨S4096x1, .i32⟩
  | 90 => ⟨S4096x1, .i1⟩
  | 91 => ⟨S1x1, .i32⟩
  | 92 => ⟨S4096x1, .i32⟩
  | 93 => ⟨S4096x1, .i1⟩
  | 94 => ⟨S4096x1, .i1⟩
  | 95 => ⟨S_, .i1⟩
  | 96 => ⟨S4096, .i1⟩
  | 97 => ⟨S4096x4, .f32⟩
  | 98 => ⟨S4096x4, .i1⟩
  | 99 => ⟨S_, .f32⟩
  | 100 => ⟨S4096x4, .f32⟩
  | 101 => ⟨S4096x4, .f32⟩
  | 102 => ⟨S4096, .f32⟩
  | 103 => ⟨S_, .f32⟩
  | 104 => ⟨S4096, .f32⟩
  | 105 => ⟨S4096x1, .f32⟩
  | 106 => ⟨S4096, .f32⟩
  | 107 => ⟨S4096x1, .f32⟩
  | 108 => ⟨S4096, .f32⟩
  | 109 => ⟨S4096x1, .f32⟩
  | 110 => ⟨S4096, .f32⟩
  | 111 => ⟨S4096x1, .f32⟩
  | 112 => ⟨S4096, .f32⟩
  | 113 => ⟨S4096x1, .f32⟩
  | 114 => ⟨S4096x1, .f32⟩
  | 115 => ⟨S4096x1, .f32⟩
  | 116 => ⟨S4096x1, .f32⟩
  | 117 => ⟨S4096x1, .f32⟩
  | 118 => ⟨S4096x1, .f32⟩
  | 119 => ⟨S4096x1, .f32⟩
  | 120 => ⟨S4096x1, .f32⟩
  | 121 => ⟨S4096x8, .f32⟩
  | 122 => ⟨S1x4096, .f32⟩
  | 123 => ⟨S1x4096, .f32⟩
  | 124 => ⟨S625x128, .f32⟩
  | 125 => ⟨S300x4, .f32⟩
  | 126 => ⟨S300, .f32⟩
  | 127 => ⟨S300, .i32⟩
  | _ => ⟨S1x20000x4, .f32⟩

abbrev hbmTy0_1 (i : Nat) : BufTy := match i % 128 with
  | 0 => ⟨S1, .i32⟩
  | _ => ⟨S1x20000x4, .f32⟩

abbrev hbmTy (i : Nat) : BufTy := match i / 128 with
  | 0 => hbmTy0_0 i
  | 1 => hbmTy0_1 i
  | _ => ⟨S1x20000x4, .f32⟩

abbrev bufTy : (tb : Table) → Fin (tcTables nBuf tb) → BufTy
  | .hbm, ⟨i, _⟩ => hbmTy i
  | .local _ .vmem, ⟨0, _⟩ => ⟨S4096x8, .f32⟩
  | .local _ .vmem, ⟨1, _⟩ => ⟨S1x4096, .f32⟩
  | .local _ .vmem, ⟨2, _⟩ => ⟨S1x4096, .f32⟩
  | .local _ .vmem, ⟨3, _⟩ => ⟨S625x128, .f32⟩
  | .local _ .vmem, ⟨4, _⟩ => ⟨S4096x1, .i32⟩
  | .local _ .vmem, ⟨5, _⟩ => ⟨S4096x8, .f32⟩
  | .local _ .smem, ⟨0, _⟩ => ⟨S300x4, .f32⟩
  | .local _ .smem, ⟨1, _⟩ => ⟨S300, .f32⟩
  | .local _ .smem, ⟨2, _⟩ => ⟨S300, .i32⟩
  | .local _ .smem, ⟨3, _⟩ => ⟨S1, .i32⟩
  | _, _ => ⟨S1x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call1_call0_c : Ref sig .tc := ⟨.hbm, 27, rfl⟩
abbrev main_call1_call0_v0 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_call2_v0 : Ref sig .tc := ⟨.hbm, 34, rfl⟩
abbrev main_call2_v1 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_c : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_0 : Ref sig .tc := ⟨.hbm, 75, rfl⟩
abbrev main_call3_v12 : Ref sig .tc := ⟨.hbm, 76, rfl⟩
abbrev main_call3_v13 : Ref sig .tc := ⟨.hbm, 77, rfl⟩
abbrev main_v41 : Ref sig .tc := ⟨.hbm, 78, rfl⟩
abbrev main_call4_c : Ref sig .tc := ⟨.hbm, 79, rfl⟩
abbrev main_call4_v0 : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_c_1 : Ref sig .tc := ⟨.hbm, 87, rfl⟩
abbrev main_call4_c_2 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_3 : Ref sig .tc := ⟨.hbm, 95, rfl⟩
abbrev main_call4_v12 : Ref sig .tc := ⟨.hbm, 96, rfl⟩
abbrev main_call4_v13 : Ref sig .tc := ⟨.hbm, 97, rfl⟩
abbrev main_call4_v14 : Ref sig .tc := ⟨.hbm, 98, rfl⟩
abbrev main_call4_cst : Ref sig .tc := ⟨.hbm, 99, rfl⟩
abbrev main_call4_v15 : Ref sig .tc := ⟨.hbm, 100, rfl⟩
abbrev main_v42 : Ref sig .tc := ⟨.hbm, 101, rfl⟩
abbrev main_v43 : Ref sig .tc := ⟨.hbm, 102, rfl⟩
abbrev main_cst_9 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65_0 : Ref sig .tc := ⟨.hbm, 125, rfl⟩
abbrev main_v65_1 : Ref sig .tc := ⟨.hbm, 126, rfl⟩
abbrev main_v65_2 : Ref sig .tc := ⟨.hbm, 127, rfl⟩
abbrev main_v65_3 : Ref sig .tc := ⟨.hbm, 128, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg4_0 : Ref sig .tc := ⟨.smem, 0, rfl⟩
abbrev cc0_stg5_0 : Ref sig .tc := ⟨.smem, 1, rfl⟩
abbrev cc0_stg6_0 : Ref sig .tc := ⟨.smem, 2, rfl⟩
abbrev cc0_stg7_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32_34 : BitVec 32 := 128#32
  let v73 : BitVec 32 := Scalar.muli arg10 c128_i32_34
  let v74 : Index := Scalar.indexCast v73
  let c0_35 : Index := 0#32
  ![v74.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32_34 : BitVec 32 := 128#32
  let v73 : BitVec 32 := Scalar.muli arg10 c128_i32_34
  let v77 : Index := Scalar.indexCast v73
  let c1_36 : Index := 1#32
  ![v77.toNat, 1]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32_34 : BitVec 32 := 128#32
  let v73 : BitVec 32 := Scalar.muli arg10 c128_i32_34
  let v94 : Index := Scalar.indexCast v73
  let c0_38 : Index := 0#32
  ![v94.toNat, 0]
@[reducible] def k0_t2_loop : Scf.Loop 32 :=
  let c0_i32_8 : BitVec 32 := 0#32
  let c32_i32_9 : BitVec 32 := 32#32
  let v9 : BitVec 32 := Scalar.addi c0_i32_8 c32_i32_9
  let c1_i32_10 : BitVec 32 := 1#32
  ⟨c0_i32_8, v9, c1_i32_10⟩
def k0_off4 (k0_t2 : Fin k0_t2_loop.trips) : Fin 2 → Nat :=
  let c0_i32_8 : BitVec 32 := 0#32
  let c1_i32_10 : BitVec 32 := 1#32
  let arg10 : BitVec 32 := Scf.iv c0_i32_8 c1_i32_10 k0_t2
  let c128_i32_34 : BitVec 32 := 128#32
  let v73 : BitVec 32 := Scalar.muli arg10 c128_i32_34
  let v82 : Index := Scalar.indexCast v73
  let c0_36 : Index := 0#32
  ![v82.toNat, 0]
@[reducible] def k0_t3_loop : Scf.Loop 32 :=
  let c0_i32_30 : BitVec 32 := 0#32
  let c300_i32 : BitVec 32 := 300#32
  let v70 : BitVec 32 := Scalar.addi c0_i32_30 c300_i32
  let c1_i32_31 : BitVec 32 := 1#32
  ⟨c0_i32_30, v70, c1_i32_31⟩
def k0_off5 (k0_t3 : Fin k0_t3_loop.trips) : Fin 2 → Nat :=
  let c0_i32_30 : BitVec 32 := 0#32
  let c1_i32_31 : BitVec 32 := 1#32
  let arg10 : BitVec 32 := Scf.iv c0_i32_30 c1_i32_31 k0_t3
  let v167 : Index := Scalar.indexCast arg10
  let c0_51 : Index := 0#32
  ![v167.toNat, 0]
def k0_off6 (k0_t3 : Fin k0_t3_loop.trips) : Fin 2 → Nat :=
  let c0_i32_30 : BitVec 32 := 0#32
  let c1_i32_31 : BitVec 32 := 1#32
  let arg10 : BitVec 32 := Scf.iv c0_i32_30 c1_i32_31 k0_t3
  let v170 : Index := Scalar.indexCast arg10
  let c1_52 : Index := 1#32
  ![v170.toNat, 1]
def k0_off7 (k0_t3 : Fin k0_t3_loop.trips) : Fin 2 → Nat :=
  let c0_i32_30 : BitVec 32 := 0#32
  let c1_i32_31 : BitVec 32 := 1#32
  let arg10 : BitVec 32 := Scf.iv c0_i32_30 c1_i32_31 k0_t3
  let v173 : Index := Scalar.indexCast arg10
  let c2_53 : Index := 2#32
  ![v173.toNat, 2]
def k0_off8 (k0_t3 : Fin k0_t3_loop.trips) : Fin 2 → Nat :=
  let c0_i32_30 : BitVec 32 := 0#32
  let c1_i32_31 : BitVec 32 := 1#32
  let arg10 : BitVec 32 := Scf.iv c0_i32_30 c1_i32_31 k0_t3
  let v176 : Index := Scalar.indexCast arg10
  let c3_54 : Index := 3#32
  ![v176.toNat, 3]
def k0_off9 (k0_t3 : Fin k0_t3_loop.trips) : Fin 1 → Nat :=
  let c0_i32_30 : BitVec 32 := 0#32
  let c1_i32_31 : BitVec 32 := 1#32
  let arg10 : BitVec 32 := Scf.iv c0_i32_30 c1_i32_31 k0_t3
  let v179 : Index := Scalar.indexCast arg10
  ![v179.toNat]
abbrev stage0_0 : Fin 1 → Memref sig .tc .vmem S4096x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S625x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S300x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S300 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1x20000x4 : Shape := ⟨3, ![1, 20000, 4]⟩
abbrev S1x20000x80 : Shape := ⟨3, ![1, 20000, 80]⟩
abbrev S1 : Shape := ⟨1, ![1]⟩
abbrev S20000x4 : Shape := ⟨2, ![20000, 4]⟩
abbrev S20000x80 : Shape := ⟨2, ![20000, 80]⟩
abbrev S1600000 : Shape := ⟨1, ![1600000]⟩
abbrev S_ : Shape := ⟨0, ![]⟩
abbrev S4096 : Shape := ⟨1, ![4096]⟩
abbrev S4096x1 : Shape := ⟨2, ![4096, 1]⟩
abbrev S4096x4 : Shape := ⟨2, ![4096, 4]⟩
abbrev S300x4 : Shape := ⟨2, ![300, 4]⟩
abbrev S300 : Shape := ⟨1, ![300]⟩
abbrev S1x4 : Shape := ⟨2, ![1, 4]⟩
abbrev S4 : Shape := ⟨1, ![4]⟩

abbrev nBuf : Space → Nat
  | .hbm => 203
  | .vmem => 0
  | .smem => 0
  | _ => 0

abbrev hbmTy0_0 (i : Nat) : BufTy := match i % 128 with
  | 0 => ⟨S1x20000x4, .f32⟩
  | 1 => ⟨S1x20000x80, .f32⟩
  | 2 => ⟨S1, .f32⟩
  | 3 => ⟨S1, .i32⟩
  | 4 => ⟨S20000x4, .f32⟩
  | 5 => ⟨S20000x80, .f32⟩
  | 6 => ⟨S1600000, .f32⟩
  | 7 => ⟨S_, .f32⟩
  | 8 => ⟨S1600000, .f32⟩
  | 9 => ⟨S1600000, .i1⟩
  | 10 => ⟨S_, .f32⟩
  | 11 => ⟨S_, .f32⟩
  | 12 => ⟨S1600000, .f32⟩
  | 13 => ⟨S1600000, .f32⟩
  | 14 => ⟨S4096, .f32⟩
  | 15 => ⟨S4096, .i32⟩
  | 16 => ⟨S_, .i32⟩
  | 17 => ⟨S4096, .i32⟩
  | 18 => ⟨S4096, .i32⟩
  | 19 => ⟨S4096x1, .i32⟩
  | 20 => ⟨S4096x4, .f32⟩
  | 21 => ⟨S_, .i32⟩
  | 22 => ⟨S4096, .i32⟩
  | 23 => ⟨S4096, .i32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S4096, .f32⟩
  | 32 => ⟨S4096, .f32⟩
  | 33 => ⟨S4096, .f32⟩
  | 34 => ⟨S4096x1, .f32⟩
  | 35 => ⟨S4096x4, .f32⟩
  | 36 => ⟨S4096x4, .f32⟩
  | 37 => ⟨S_, .f32⟩
  | 38 => ⟨S4096, .f32⟩
  | 39 => ⟨S4096, .i1⟩
  | 40 => ⟨S_, .f32⟩
  | 41 => ⟨S300x4, .f32⟩
  | 42 => ⟨S_, .f32⟩
  | 43 => ⟨S300, .f32⟩
  | 44 => ⟨S_, .i32⟩
  | 45 => ⟨S300, .i32⟩
  | 46 => ⟨S_, .i1⟩
  | 47 => ⟨S300, .i1⟩
  | 48 => ⟨S_, .i32⟩
  | 49 => ⟨S4096, .f32⟩
  | 50 => ⟨S4096x4, .f32⟩
  | 51 => ⟨S4096x4, .f32⟩
  | 52 => ⟨S4096, .i32⟩
  | 53 => ⟨S_, .i32⟩
  | 54 => ⟨S4096, .i1⟩
  | 55 => ⟨S300x4, .f32⟩
  | 56 => ⟨S300, .f32⟩
  | 57 => ⟨S300, .i32⟩
  | 58 => ⟨S300, .i1⟩
  | 59 => ⟨S_, .i32⟩
  | 60 => ⟨S_, .i1⟩
  | 61 => ⟨S_, .f32⟩
  | 62 => ⟨S_, .f32⟩
  | 63 => ⟨S4096, .f32⟩
  | 64 => ⟨S4096, .f32⟩
  | 65 => ⟨S_, .f32⟩
  | 66 => ⟨S_, .f32⟩
  | 67 => ⟨S4096, .f32⟩
  | 68 => ⟨S4096, .i1⟩
  | 69 => ⟨S4096, .i32⟩
  | 70 => ⟨S_, .i32⟩
  | 71 => ⟨S_, .i32⟩
  | 72 => ⟨S4096, .i32⟩
  | 73 => ⟨S4096, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S1, .i1⟩
  | 82 => ⟨S_, .i1⟩
  | 83 => ⟨S_, .i32⟩
  | 84 => ⟨S_, .i1⟩
  | 85 => ⟨S_, .i32⟩
  | 86 => ⟨S_, .i32⟩
  | 87 => ⟨S_, .i32⟩
  | 88 => ⟨S1, .f32⟩
  | 89 => ⟨S_, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x4, .f32⟩
  | 97 => ⟨S4, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S1x4, .f32⟩
  | 105 => ⟨S4, .f32⟩
  | 106 => ⟨S_, .i32⟩
  | 107 => ⟨S_, .i1⟩
  | 108 => ⟨S_, .i32⟩
  | 109 => ⟨S_, .i32⟩
  | 110 => ⟨S_, .i32⟩
  | 111 => ⟨S1, .i32⟩
  | 112 => ⟨S_, .i32⟩
  | 113 => ⟨S1, .f32⟩
  | 114 => ⟨S_, .f32⟩
  | 115 => ⟨S4096x1, .f32⟩
  | 116 => ⟨S4096, .f32⟩
  | 117 => ⟨S4096, .f32⟩
  | 118 => ⟨S4096, .f32⟩
  | 119 => ⟨S1, .f32⟩
  | 120 => ⟨S_, .f32⟩
  | 121 => ⟨S4096x1, .f32⟩
  | 122 => ⟨S4096, .f32⟩
  | 123 => ⟨S4096, .f32⟩
  | 124 => ⟨S4096, .f32⟩
  | 125 => ⟨S1, .f32⟩
  | 126 => ⟨S_, .f32⟩
  | 127 => ⟨S4096x1, .f32⟩
  | _ => ⟨S1x20000x4, .f32⟩

abbrev hbmTy0_1 (i : Nat) : BufTy := match i % 128 with
  | 0 => ⟨S4096, .f32⟩
  | 1 => ⟨S4096, .f32⟩
  | 2 => ⟨S4096, .f32⟩
  | 3 => ⟨S1, .f32⟩
  | 4 => ⟨S_, .f32⟩
  | 5 => ⟨S4096x1, .f32⟩
  | 6 => ⟨S4096, .f32⟩
  | 7 => ⟨S4096, .f32⟩
  | 8 => ⟨S4096, .f32⟩
  | 9 => ⟨S4096, .f32⟩
  | 10 => ⟨S_, .f32⟩
  | 11 => ⟨S4096, .f32⟩
  | 12 => ⟨S4096, .f32⟩
  | 13 => ⟨S4096, .f32⟩
  | 14 => ⟨S_, .f32⟩
  | 15 => ⟨S4096, .f32⟩
  | 16 => ⟨S4096, .f32⟩
  | 17 => ⟨S4096, .f32⟩
  | 18 => ⟨S1, .f32⟩
  | 19 => ⟨S_, .f32⟩
  | 20 => ⟨S1, .f32⟩
  | 21 => ⟨S_, .f32⟩
  | 22 => ⟨S_, .f32⟩
  | 23 => ⟨S1, .f32⟩
  | 24 => ⟨S_, .f32⟩
  | 25 => ⟨S1, .f32⟩
  | 26 => ⟨S_, .f32⟩
  | 27 => ⟨S_, .f32⟩
  | 28 => ⟨S_, .f32⟩
  | 29 => ⟨S4096x1, .f32⟩
  | 30 => ⟨S4096, .f32⟩
  | 31 => ⟨S4096x1, .f32⟩
  | 32 => ⟨S4096, .f32⟩
  | 33 => ⟨S4096, .f32⟩
  | 34 => ⟨S4096x1, .f32⟩
  | 35 => ⟨S4096, .f32⟩
  | 36 => ⟨S4096x1, .f32⟩
  | 37 => ⟨S4096, .f32⟩
  | 38 => ⟨S4096, .f32⟩
  | 39 => ⟨S4096, .f32⟩
  | 40 => ⟨S4096, .f32⟩
  | 41 => ⟨S4096, .f32⟩
  | 42 => ⟨S4096, .f32⟩
  | 43 => ⟨S_, .f32⟩
  | 44 => ⟨S4096, .f32⟩
  | 45 => ⟨S4096, .f32⟩
  | 46 => ⟨S4096, .f32⟩
  | 47 => ⟨S_, .f32⟩
  | 48 => ⟨S4096, .f32⟩
  | 49 => ⟨S4096, .i1⟩
  | 50 => ⟨S4096, .i1⟩
  | 51 => ⟨S_, .f32⟩
  | 52 => ⟨S4, .f32⟩
  | 53 => ⟨S4, .f32⟩
  | 54 => ⟨S_, .f32⟩
  | 55 => ⟨S_, .f32⟩
  | 56 => ⟨S_, .f32⟩
  | 57 => ⟨S_, .i32⟩
  | 58 => ⟨S_, .i32⟩
  | 59 => ⟨S_, .i32⟩
  | 60 => ⟨S1x4, .f32⟩
  | 61 => ⟨S_, .i32⟩
  | 62 => ⟨S300x4, .f32⟩
  | 63 => ⟨S1, .f32⟩
  | 64 => ⟨S300, .f32⟩
  | 65 => ⟨S1, .i32⟩
  | 66 => ⟨S300, .i32⟩
  | 67 => ⟨S1, .i1⟩
  | 68 => ⟨S300, .i1⟩
  | 69 => ⟨S_, .i32⟩
  | 70 => ⟨S_, .i32⟩
  | 71 => ⟨S300, .i32⟩
  | 72 => ⟨S_, .i32⟩
  | 73 => ⟨S_, .i32⟩
  | 74 => ⟨S1, .i32⟩
  | _ => ⟨S1x20000x4, .f32⟩

abbrev hbmTy (i : Nat) : BufTy := match i / 128 with
  | 0 => hbmTy0_0 i
  | 1 => hbmTy0_1 i
  | _ => ⟨S1x20000x4, .f32⟩

abbrev bufTy : (tb : Table) → Fin (tcTables nBuf tb) → BufTy
  | .hbm, ⟨i, _⟩ => hbmTy i
  | _, _ => ⟨S1x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_values : Ref sig .tc := ⟨.hbm, 14, rfl⟩
abbrev main_indices : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_call1_v0 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_c_8 : Ref sig .tc := ⟨.hbm, 44, rfl⟩
abbrev main_v25 : Ref sig .tc := ⟨.hbm, 45, rfl⟩
abbrev main_c_9 : Ref sig .tc := ⟨.hbm, 46, rfl⟩
abbrev main_v26 : Ref sig .tc := ⟨.hbm, 47, rfl⟩
abbrev main_c_10 : Ref sig .tc := ⟨.hbm, 48, rfl⟩
abbrev main_v27_0 : Ref sig .tc := ⟨.hbm, 49, rfl⟩
abbrev main_v27_1 : Ref sig .tc := ⟨.hbm, 50, rfl⟩
abbrev main_v27_2 : Ref sig .tc := ⟨.hbm, 51, rfl⟩
abbrev main_v27_3 : Ref sig .tc := ⟨.hbm, 52, rfl⟩
abbrev main_v27_4 : Ref sig .tc := ⟨.hbm, 53, rfl⟩
abbrev main_v27_5 : Ref sig .tc := ⟨.hbm, 54, rfl⟩
abbrev main_v27_6 : Ref sig .tc := ⟨.hbm, 55, rfl⟩
abbrev main_v27_7 : Ref sig .tc := ⟨.hbm, 56, rfl⟩
abbrev main_v27_8 : Ref sig .tc := ⟨.hbm, 57, rfl⟩
abbrev main_v27_9 : Ref sig .tc := ⟨.hbm, 58, rfl⟩
abbrev main_while0c_c_21 : Ref sig .tc := ⟨.hbm, 59, rfl⟩
abbrev main_while0c_v31 : Ref sig .tc := ⟨.hbm, 60, rfl⟩
abbrev main_while0b_cst_21 : Ref sig .tc := ⟨.hbm, 61, rfl⟩
abbrev main_while0b_call2_v0 : Ref sig .tc := ⟨.hbm, 62, rfl⟩
abbrev main_while0b_call2_v1 : Ref sig .tc := ⟨.hbm, 63, rfl⟩
abbrev main_while0b_v31 : Ref sig .tc := ⟨.hbm, 64, rfl⟩
abbrev main_while0b_cst_22 : Ref sig .tc := ⟨.hbm, 65, rfl⟩
abbrev main_while0b_v32 : Ref sig .tc := ⟨.hbm, 66, rfl⟩
abbrev main_while0b_v33 : Ref sig .tc := ⟨.hbm, 67, rfl⟩
abbrev main_while0b_v34 : Ref sig .tc := ⟨.hbm, 68, rfl⟩
abbrev main_while0b_v35 : Ref sig .tc := ⟨.hbm, 69, rfl⟩
abbrev main_while0b_c_23 : Ref sig .tc := ⟨.hbm, 70, rfl⟩
abbrev main_while0b_call3_v0 : Ref sig .tc := ⟨.hbm, 71, rfl⟩
abbrev main_while0b_call3_v1 : Ref sig .tc := ⟨.hbm, 72, rfl⟩
abbrev main_while0b_v36 : Ref sig .tc := ⟨.hbm, 73, rfl⟩
abbrev main_while0b_c_24 : Ref sig .tc := ⟨.hbm, 74, rfl⟩
abbrev main_while0b_v37 : Ref sig .tc := ⟨.hbm, 75, rfl⟩
abbrev main_while0b_call4_c : Ref sig .tc := ⟨.hbm, 76, rfl⟩
abbrev main_while0b_call4_v0 : Ref sig .tc := ⟨.hbm, 77, rfl⟩
abbrev main_while0b_call4_c_0 : Ref sig .tc := ⟨.hbm, 78, rfl⟩
abbrev main_while0b_call4_v1 : Ref sig .tc := ⟨.hbm, 79, rfl⟩
abbrev main_while0b_call4_v2 : Ref sig .tc := ⟨.hbm, 80, rfl⟩
abbrev main_while0b_call4_v3 : Ref sig .tc := ⟨.hbm, 81, rfl⟩
abbrev main_while0b_v38 : Ref sig .tc := ⟨.hbm, 82, rfl⟩
abbrev main_while0b_call5_c : Ref sig .tc := ⟨.hbm, 83, rfl⟩
abbrev main_while0b_call5_v0 : Ref sig .tc := ⟨.hbm, 84, rfl⟩
abbrev main_while0b_call5_c_0 : Ref sig .tc := ⟨.hbm, 85, rfl⟩
abbrev main_while0b_call5_v1 : Ref sig .tc := ⟨.hbm, 86, rfl⟩
abbrev main_while0b_call5_v2 : Ref sig .tc := ⟨.hbm, 87, rfl⟩
abbrev main_while0b_call5_v3 : Ref sig .tc := ⟨.hbm, 88, rfl⟩
abbrev main_while0b_v39 : Ref sig .tc := ⟨.hbm, 89, rfl⟩
abbrev main_while0b_call6_c : Ref sig .tc := ⟨.hbm, 90, rfl⟩
abbrev main_while0b_call6_v0 : Ref sig .tc := ⟨.hbm, 91, rfl⟩
abbrev main_while0b_call6_c_0 : Ref sig .tc := ⟨.hbm, 92, rfl⟩
abbrev main_while0b_call6_v1 : Ref sig .tc := ⟨.hbm, 93, rfl⟩
abbrev main_while0b_call6_v2 : Ref sig .tc := ⟨.hbm, 94, rfl⟩
abbrev main_while0b_call6_c_1 : Ref sig .tc := ⟨.hbm, 95, rfl⟩
abbrev main_while0b_call6_v3 : Ref sig .tc := ⟨.hbm, 96, rfl⟩
abbrev main_while0b_v40 : Ref sig .tc := ⟨.hbm, 97, rfl⟩
abbrev main_while0b_call7_c : Ref sig .tc := ⟨.hbm, 98, rfl⟩
abbrev main_while0b_call7_v0 : Ref sig .tc := ⟨.hbm, 99, rfl⟩
abbrev main_while0b_call7_c_0 : Ref sig .tc := ⟨.hbm, 100, rfl⟩
abbrev main_while0b_call7_v1 : Ref sig .tc := ⟨.hbm, 101, rfl⟩
abbrev main_while0b_call7_v2 : Ref sig .tc := ⟨.hbm, 102, rfl⟩
abbrev main_while0b_call7_c_1 : Ref sig .tc := ⟨.hbm, 103, rfl⟩
abbrev main_while0b_call7_v3 : Ref sig .tc := ⟨.hbm, 104, rfl⟩
abbrev main_while0b_v41 : Ref sig .tc := ⟨.hbm, 105, rfl⟩
abbrev main_while0b_call8_c : Ref sig .tc := ⟨.hbm, 106, rfl⟩
abbrev main_while0b_call8_v0 : Ref sig .tc := ⟨.hbm, 107, rfl⟩
abbrev main_while0b_call8_c_0 : Ref sig .tc := ⟨.hbm, 108, rfl⟩
abbrev main_while0b_call8_v1 : Ref sig .tc := ⟨.hbm, 109, rfl⟩
abbrev main_while0b_call8_v2 : Ref sig .tc := ⟨.hbm, 110, rfl⟩
abbrev main_while0b_call8_v3 : Ref sig .tc := ⟨.hbm, 111, rfl⟩
abbrev main_while0b_v42 : Ref sig .tc := ⟨.hbm, 112, rfl⟩
abbrev main_while0b_v43 : Ref sig .tc := ⟨.hbm, 113, rfl⟩
abbrev main_while0b_v44 : Ref sig .tc := ⟨.hbm, 114, rfl⟩
abbrev main_while0b_v45 : Ref sig .tc := ⟨.hbm, 115, rfl⟩
abbrev main_while0b_v46 : Ref sig .tc := ⟨.hbm, 116, rfl⟩
abbrev main_while0b_v47 : Ref sig .tc := ⟨.hbm, 117, rfl⟩
abbrev main_while0b_v48 : Ref sig .tc := ⟨.hbm, 118, rfl⟩
abbrev main_while0b_v49 : Ref sig .tc := ⟨.hbm, 119, rfl⟩
abbrev main_while0b_v50 : Ref sig .tc := ⟨.hbm, 120, rfl⟩
abbrev main_while0b_v51 : Ref sig .tc := ⟨.hbm, 121, rfl⟩
abbrev main_while0b_v52 : Ref sig .tc := ⟨.hbm, 122, rfl⟩
abbrev main_while0b_v53 : Ref sig .tc := ⟨.hbm, 123, rfl⟩
abbrev main_while0b_v54 : Ref sig .tc := ⟨.hbm, 124, rfl⟩
abbrev main_while0b_v55 : Ref sig .tc := ⟨.hbm, 125, rfl⟩
abbrev main_while0b_v56 : Ref sig .tc := ⟨.hbm, 126, rfl⟩
abbrev main_while0b_v57 : Ref sig .tc := ⟨.hbm, 127, rfl⟩
abbrev main_while0b_v58 : Ref sig .tc := ⟨.hbm, 128, rfl⟩
abbrev main_while0b_v59 : Ref sig .tc := ⟨.hbm, 129, rfl⟩
abbrev main_while0b_v60 : Ref sig .tc := ⟨.hbm, 130, rfl⟩
abbrev main_while0b_v61 : Ref sig .tc := ⟨.hbm, 131, rfl⟩
abbrev main_while0b_v62 : Ref sig .tc := ⟨.hbm, 132, rfl⟩
abbrev main_while0b_v63 : Ref sig .tc := ⟨.hbm, 133, rfl⟩
abbrev main_while0b_v64 : Ref sig .tc := ⟨.hbm, 134, rfl⟩
abbrev main_while0b_v65 : Ref sig .tc := ⟨.hbm, 135, rfl⟩
abbrev main_while0b_v66 : Ref sig .tc := ⟨.hbm, 136, rfl⟩
abbrev main_while0b_v67 : Ref sig .tc := ⟨.hbm, 137, rfl⟩
abbrev main_while0b_cst_25 : Ref sig .tc := ⟨.hbm, 138, rfl⟩
abbrev main_while0b_v68 : Ref sig .tc := ⟨.hbm, 139, rfl⟩
abbrev main_while0b_v69 : Ref sig .tc := ⟨.hbm, 140, rfl⟩
abbrev main_while0b_v70 : Ref sig .tc := ⟨.hbm, 141, rfl⟩
abbrev main_while0b_cst_26 : Ref sig .tc := ⟨.hbm, 142, rfl⟩
abbrev main_while0b_v71 : Ref sig .tc := ⟨.hbm, 143, rfl⟩
abbrev main_while0b_v72 : Ref sig .tc := ⟨.hbm, 144, rfl⟩
abbrev main_while0b_v73 : Ref sig .tc := ⟨.hbm, 145, rfl⟩
abbrev main_while0b_v74 : Ref sig .tc := ⟨.hbm, 146, rfl⟩
abbrev main_while0b_v75 : Ref sig .tc := ⟨.hbm, 147, rfl⟩
abbrev main_while0b_v76 : Ref sig .tc := ⟨.hbm, 148, rfl⟩
abbrev main_while0b_v77 : Ref sig .tc := ⟨.hbm, 149, rfl⟩
abbrev main_while0b_v78 : Ref sig .tc := ⟨.hbm, 150, rfl⟩
abbrev main_while0b_v79 : Ref sig .tc := ⟨.hbm, 151, rfl⟩
abbrev main_while0b_v80 : Ref sig .tc := ⟨.hbm, 152, rfl⟩
abbrev main_while0b_v81 : Ref sig .tc := ⟨.hbm, 153, rfl⟩
abbrev main_while0b_v82 : Ref sig .tc := ⟨.hbm, 154, rfl⟩
abbrev main_while0b_v83 : Ref sig .tc := ⟨.hbm, 155, rfl⟩
abbrev main_while0b_v84 : Ref sig .tc := ⟨.hbm, 156, rfl⟩
abbrev main_while0b_v85 : Ref sig .tc := ⟨.hbm, 157, rfl⟩
abbrev main_while0b_v86 : Ref sig .tc := ⟨.hbm, 158, rfl⟩
abbrev main_while0b_v87 : Ref sig .tc := ⟨.hbm, 159, rfl⟩
abbrev main_while0b_v88 : Ref sig .tc := ⟨.hbm, 160, rfl⟩
abbrev main_while0b_v89 : Ref sig .tc := ⟨.hbm, 161, rfl⟩
abbrev main_while0b_v90 : Ref sig .tc := ⟨.hbm, 162, rfl⟩
abbrev main_while0b_v91 : Ref sig .tc := ⟨.hbm, 163, rfl⟩
abbrev main_while0b_v92 : Ref sig .tc := ⟨.hbm, 164, rfl⟩
abbrev main_while0b_v93 : Ref sig .tc := ⟨.hbm, 165, rfl⟩
abbrev main_while0b_v94 : Ref sig .tc := ⟨.hbm, 166, rfl⟩
abbrev main_while0b_v95 : Ref sig .tc := ⟨.hbm, 167, rfl⟩
abbrev main_while0b_v96 : Ref sig .tc := ⟨.hbm, 168, rfl⟩
abbrev main_while0b_v97 : Ref sig .tc := ⟨.hbm, 169, rfl⟩
abbrev main_while0b_v98 : Ref sig .tc := ⟨.hbm, 170, rfl⟩
abbrev main_while0b_cst_27 : Ref sig .tc := ⟨.hbm, 171, rfl⟩
abbrev main_while0b_v99 : Ref sig .tc := ⟨.hbm, 172, rfl⟩
abbrev main_while0b_v100 : Ref sig .tc := ⟨.hbm, 173, rfl⟩
abbrev main_while0b_v101 : Ref sig .tc := ⟨.hbm, 174, rfl⟩
abbrev main_while0b_cst_28 : Ref sig .tc := ⟨.hbm, 175, rfl⟩
abbrev main_while0b_v102 : Ref sig .tc := ⟨.hbm, 176, rfl⟩
abbrev main_while0b_v103 : Ref sig .tc := ⟨.hbm, 177, rfl⟩
abbrev main_while0b_v104 : Ref sig .tc := ⟨.hbm, 178, rfl⟩
abbrev main_while0b_cst_29 : Ref sig .tc := ⟨.hbm, 179, rfl⟩
abbrev main_while0b_v105 : Ref sig .tc := ⟨.hbm, 180, rfl⟩
abbrev main_while0b_v106 : Ref sig .tc := ⟨.hbm, 181, rfl⟩
abbrev main_while0b_cst_30 : Ref sig .tc := ⟨.hbm, 182, rfl⟩
abbrev main_while0b_call10_v0 : Ref sig .tc := ⟨.hbm, 183, rfl⟩
abbrev main_while0b_v107 : Ref sig .tc := ⟨.hbm, 184, rfl⟩
abbrev main_while0b_c_31 : Ref sig .tc := ⟨.hbm, 185, rfl⟩
abbrev main_while0b_call11_v0 : Ref sig .tc := ⟨.hbm, 186, rfl⟩
abbrev main_while0b_v108 : Ref sig .tc := ⟨.hbm, 187, rfl⟩
abbrev main_while0b_call12_v0 : Ref sig .tc := ⟨.hbm, 188, rfl⟩
abbrev main_while0b_call12_c : Ref sig .tc := ⟨.hbm, 189, rfl⟩
abbrev main_while0b_v109 : Ref sig .tc := ⟨.hbm, 190, rfl⟩
abbrev main_while0b_call13_v0 : Ref sig .tc := ⟨.hbm, 191, rfl⟩
abbrev main_while0b_v110 : Ref sig .tc := ⟨.hbm, 192, rfl⟩
abbrev main_while0b_call14_v0 : Ref sig .tc := ⟨.hbm, 193, rfl⟩
abbrev main_while0b_v111 : Ref sig .tc := ⟨.hbm, 194, rfl⟩
abbrev main_while0b_call15_v0 : Ref sig .tc := ⟨.hbm, 195, rfl⟩
abbrev main_while0b_v112 : Ref sig .tc := ⟨.hbm, 196, rfl⟩
abbrev main_while0b_c_32 : Ref sig .tc := ⟨.hbm, 197, rfl⟩
abbrev main_while0b_v113 : Ref sig .tc := ⟨.hbm, 198, rfl⟩
abbrev main_v28 : Ref sig .tc := ⟨.hbm, 199, rfl⟩
abbrev main_c_11 : Ref sig .tc := ⟨.hbm, 200, rfl⟩
abbrev main_v29 : Ref sig .tc := ⟨.hbm, 201, rfl⟩
abbrev main_v30 : Ref sig .tc := ⟨.hbm, 202, rfl⟩

abbrev nD : Nat := 1
abbrev τ : Topo := Topo.v7x

variable {F : FTy → Type} [FloatOps F]

abbrev main_while0_count : Scf.Loop 32 := ⟨0#32, 300#32, 1#32⟩
-- ==== Proof.Model.lean ====
/- Greedy suppression over 4096 candidates in plain mathematics: what both programs compute once the candidates are
   listed in order. -/
module

public import Idealize.ShloMosaic.PureOps.Ideal

@[expose] public section

noncomputable section

namespace Cert.Nms

open Idealize.ShloMosaic

/-- The candidates in order of falling score: score, box corner, class, and the side by which a class is moved. -/
structure Cand where
  s : Fin 4096 → EReal
  b : Fin 4 → Fin 4096 → EReal
  c : Fin 4096 → ℕ
  span : EReal

open Classical in
/-- The first candidate still standing, or 4096. -/
@[irreducible] def first (v : Fin 4096 → Bool) : ℕ :=
  if h : ∃ n, ∃ hn : n < 4096, v ⟨n, hn⟩ = true then Nat.find h else 4096

theorem first_of_none (v : Fin 4096 → Bool) (h : ∀ r, v r = false) : first v = 4096 := by
  unfold first
  rw [dif_neg]
  rintro ⟨n, hn, h1⟩
  rw [h] at h1
  exact Bool.false_ne_true h1

theorem first_eq (v : Fin 4096 → Bool) (p : Fin 4096) (hp : v p = true) (hm : ∀ r, v r = true → p ≤ r) : first v = p.val := by
  unfold first
  have h : ∃ n, ∃ hn : n < 4096, v ⟨n, hn⟩ = true := ⟨p.val, p.isLt, hp⟩
  rw [dif_pos h]
  apply le_antisymm
  · exact Nat.find_min' h ⟨p.isLt, hp⟩
  · obtain ⟨hn, h1⟩ := Nat.find_spec h
    exact hm ⟨_, hn⟩ h1

/-- Either nobody stands, or the first who does is the least. -/
theorem first_cases (v : Fin 4096 → Bool) :
    ((∀ r, v r = false) ∧ first v = 4096) ∨ ∃ p : Fin 4096, v p = true ∧ (∀ r, v r = true → p ≤ r) ∧ first v = p.val := by
  by_cases h : ∃ n, ∃ hn : n < 4096, v ⟨n, hn⟩ = true
  · right
    obtain ⟨hn, h1⟩ := Nat.find_spec h
    refine ⟨⟨_, hn⟩, h1, fun r hr => Nat.find_min' h ⟨r.isLt, hr⟩, ?_⟩
    exact first_eq v ⟨_, hn⟩ h1 fun r hr => Nat.find_min' h ⟨r.isLt, hr⟩
  · left
    have h0 : ∀ r, v r = false := fun r => by
      by_contra hc
      exact h ⟨r.val, r.isLt, by simpa using hc⟩
    exact ⟨h0, first_of_none v h0⟩

/-- A column read at the first candidate standing; zero when there is none. -/
def pick (v : Fin 4096 → Bool) (f : Fin 4096 → EReal) : EReal := if h : first v < 4096 then f ⟨first v, h⟩ else 0

theorem pick_none (v : Fin 4096 → Bool) (h : first v = 4096) (f : Fin 4096 → EReal) : pick v f = 0 := by
  unfold pick; rw [dif_neg (by omega)]

theorem pick_some (v : Fin 4096 → Bool) (p : Fin 4096) (h : first v = p.val) (f : Fin 4096 → EReal) : pick v f = f p := by
  have hlt : first v < 4096 := h ▸ p.isLt
  have e : (⟨first v, hlt⟩ : Fin 4096) = p := Fin.eq_of_val_eq h
  unfold pick
  rw [dif_pos hlt, e]

variable (d : Cand)

/-- A box corner moved by its class. -/
def Cand.off (k : Fin 4) (r : Fin 4096) : EReal := d.b k r + (((d.c r : ℕ) : ℝ) : EReal) * d.span

/-- A moved box's area. -/
def Cand.area (r : Fin 4096) : EReal := (d.off 2 r - d.off 0 r) * (d.off 3 r - d.off 1 r)

/-- The common area of a box `p` and candidate `r`'s moved box. -/
def Cand.inter (p : Fin 4 → EReal) (r : Fin 4096) : EReal :=
  max (min (p 2) (d.off 2 r) - max (p 0) (d.off 0 r)) 0 * max (min (p 3) (d.off 3 r) - max (p 1) (d.off 1 r)) 0

/-- Intersection over union of a box `p` with candidate `r`'s moved box. -/
def Cand.iou (p : Fin 4 → EReal) (r : Fin 4096) : EReal :=
  Ideal.div (d.inter p r)
    ((p 2 - p 0) * (p 3 - p 1) + d.area r - d.inter p r + Ideal.ofBits .f32 0x3089705F#32)

/-- Who stands after the first one has suppressed those it overlaps. -/
def Cand.next (v : Fin 4096 → Bool) (r : Fin 4096) : Bool :=
  v r && decide (d.iou (fun k => pick v (d.off k)) r ≤ Ideal.ofBits .f32 0x3F266666#32)

/-- Who stands before step `n`. -/
def Cand.valid : ℕ → Fin 4096 → Bool
  | 0 => fun r => decide (0 < d.s r)
  | n + 1 => d.next (Cand.valid n)

theorem Cand.valid_pos (n : ℕ) (r : Fin 4096) (h : d.valid n r = true) : 0 < d.s r := by
  induction n with
  | zero => simpa [Cand.valid] using h
  | succ n ih =>
    apply ih
    simp only [Cand.valid, Cand.next, Bool.and_eq_true] at h
    exact h.1

/-- Step `j`'s box. -/
def Cand.outBox (j : ℕ) (k : Fin 4) : EReal := pick (d.valid j) (d.b k)
/-- Step `j`'s score. -/
def Cand.outScore (j : ℕ) : EReal := pick (d.valid j) d.s
/-- Step `j`'s class, −1 when nobody stands. -/
def Cand.outClass (j : ℕ) : BitVec 32 :=
  if h : first (d.valid j) < 4096 then BitVec.ofNat 32 (d.c ⟨_, h⟩) else 4294967295#32
/-- Step `j` finds somebody. -/
def Cand.found (j : ℕ) : Bool := decide (first (d.valid j) < 4096)
/-- How many of the first `n` steps find somebody. -/
def Cand.count (n : ℕ) : ℕ := ((List.range n).filter d.found).length

theorem Cand.count_succ (n : ℕ) : d.count (n + 1) = d.count n + if d.found n then 1 else 0 := by
  unfold Cand.count
  rw [List.range_succ, List.filter_append, List.length_append]
  by_cases h : d.found n <;> simp [h]

end Cert.Nms
end
-- ==== Proof.Cands.lean ====
/- The candidates both programs suppress: positions in a given order, each with its score, its box and its class. -/
module

public import proofs.«01_k».proof.Proof.Model
public import proofs.«01_k».proof.Proof.Gen.KernelIdeal.Skeleton
public import Idealize.ShloMosaic.Lib.Pointwise

@[expose] public section

set_option maxRecDepth 16384

noncomputable section

namespace Cert.Nms

open Cert.KernelIdeal Cert.KernelIdeal.Gen
open Idealize.ShloMosaic

/-- The box a position belongs to: 80 classes to a box. -/
def boxNo (p : Fin 1600000) : Fin 20000 := ⟨p.val / 80, Nat.div_lt_of_lt_mul p.isLt⟩

/-- The side by which a class is moved: one more than the spread of the coordinates. -/
def spanOf (b : FVec Ideal S20000x4 .f32) : EReal :=
  Finset.univ.fold max (Ideal.ofBits FTy.f32 4286578688#32) (fun i => (b i : EReal))
    - Finset.univ.fold min (Ideal.ofBits FTy.f32 2139095040#32) (fun i => (b i : EReal)) + 1

/-- The candidates at the positions `order` lists. -/
def candOf (b : FVec Ideal S20000x4 .f32) (F : Fin 1600000 → EReal) (order : Fin 4096 → Fin 1600000) : Cand where
  s r := F (order r)
  b k r := b (ix2 (boxNo (order r)) k)
  c r := (order r).val % 80
  span := spanOf b

end Cert.Nms
end
-- ==== Proof.HostRead.lean ====
/- What the host operations before the call leave, group by group: each array as an expression over the arrays before
   the group. -/
module

public import proofs.«01_k».proof.Proof.Gen.KernelIdeal.Frame
public import Idealize.ShloMosaic.Lib.StableHlo.RunRead
public import Idealize.ShloMosaic.PureOps.Ideal

@[expose] public section

set_option maxRecDepth 16384

noncomputable section

namespace Cert.Nms

open Cert.KernelIdeal Cert.KernelIdeal.Gen
open Idealize.ShloMosaic Idealize.ShloMosaic.TcCoe Idealize.ShloMosaic.StableHlo

/-- A line in groups is run group by group. -/
theorem after_flatten (ls : List (List (HloOp τ sig (Elt Ideal)))) (W : Valuation τ sig (Elt Ideal)) :
    after ls.flatten W = ls.foldl (fun W l => after l W) W := by
  induction ls generalizing W with
  | nil => rfl
  | cons l ls ih =>
    rw [List.flatten_cons, List.foldl_cons, ← ih]
    induction l generalizing W with
    | nil => rfl
    | cons op l ih' => exact ih' _

variable (W : Valuation τ sig (Elt Ideal))

section Start
theorem g0_v0 : after hostOps0 W main_v0 = shapeCast S20000x4 (W main_arg0 : FVec Ideal S1x20000x4 .f32) shapeCasts_S1x20000x4_S20000x4 := by
  after_reads_simp; rfl
theorem g0_v2 : after hostOps0 W main_v2 = shapeCast S1600000 (shapeCast S20000x80 (W main_arg1 : FVec Ideal S1x20000x80 .f32) shapeCasts_S1x20000x80_S20000x80) shapeCasts_S20000x80_S1600000 := by
  after_reads_simp; rfl
theorem g0_v4 : after hostOps0 W main_v4 = cmpf (F := Ideal) .oge (after hostOps0 W main_v2 : FVec Ideal S1600000 .f32) (broadcastInDim S1600000 ![] bcast_S_S1600000 (constant (F := Ideal) S_ .f32 0x3D4CCCCD#32)) := by
  after_reads_simp
theorem g0_cst : after hostOps0 W main_cst_0 = constant (F := Ideal) S_ .f32 0xBF800000#32 := by
  after_reads_simp
theorem g0_arg2 : after hostOps0 W main_arg2 = W main_arg2 := by after_reads_simp
theorem g0_arg3 : after hostOps0 W main_arg3 = W main_arg3 := by after_reads_simp

theorem g1_v5 : after hostOps0_1 W main_v5 = select (W main_v4 : IVec S1600000 1) (W main_v2 : FVec Ideal S1600000 .f32)
    (broadcastInDim S1600000 ![] bcast_S_S1600000 (W main_cst_0 : FVec Ideal S_ .f32)) := by
  after_reads_simp
  have e : ∀ v : (⟨S1600000, .f32⟩ : BufTy).Contents (Elt Ideal), (TRef.of (T := ⟨S1600000, .f32⟩) main_v5).toBuf v = v := fun _ => rfl
  rw [e, TRef.ofBuf_toBuf, TRef.ofBuf_toBuf]
  have e4 : ∀ v : (⟨S1600000, .i1⟩ : BufTy).Contents (Elt Ideal), (TRef.of (T := ⟨S1600000, .i1⟩) main_v4).ofBuf v = v := fun _ => rfl
  have e2 : ∀ v : (⟨S1600000, .f32⟩ : BufTy).Contents (Elt Ideal), (TRef.of (T := ⟨S1600000, .f32⟩) main_v2).ofBuf v = v := fun _ => rfl
  have ec : ∀ v : (⟨S_, .f32⟩ : BufTy).Contents (Elt Ideal), (TRef.of (T := ⟨S_, .f32⟩) main_cst_0).ofBuf v = v := fun _ => rfl
  rw [e4, e2, ec]
  rfl
theorem g1_v0 : after hostOps0_1 W main_v0 = W main_v0 := by after_reads_simp
theorem g1_arg2 : after hostOps0_1 W main_arg2 = W main_arg2 := by after_reads_simp
theorem g1_arg3 : after hostOps0_1 W main_arg3 = W main_arg3 := by after_reads_simp

theorem g2_v0 : after hostOps0_2 W main_v0 = W main_v0 := by after_reads_simp
theorem g2_v5 : after hostOps0_2 W main_v5 = W main_v5 := by after_reads_simp
theorem g2_v6 : after hostOps0_2 W main_v6 = iotaInDim S1600000 32 0 := by after_reads_simp
theorem g2_v17 : after hostOps0_2 W main_v17 = ori
      (cmpf (F := Ideal) .ogt (W main_v5 : FVec Ideal S1600000 .f32) (broadcastInDim S1600000 ![] bcast_S_S1600000 (shapeCast (s := S1) (α := Ideal .f32) S_ (W main_arg2 : FVec Ideal S1 .f32) shapeCasts_S1_S_)))
      (andi (cmpf (F := Ideal) .oeq (W main_v5 : FVec Ideal S1600000 .f32) (broadcastInDim S1600000 ![] bcast_S_S1600000 (shapeCast (s := S1) (α := Ideal .f32) S_ (W main_arg2 : FVec Ideal S1 .f32) shapeCasts_S1_S_)))
        (cmpi .slt (iotaInDim S1600000 32 0) (broadcastInDim S1600000 ![] bcast_S_S1600000 (shapeCast S_ (W main_arg3 : IVec S1 32) shapeCasts_S1_S_)))) := by
  after_reads_simp; rfl
theorem g2_v18 : after hostOps0_2 W main_v18 = extui 32 (after hostOps0_2 W main_v17 : IVec S1600000 1) natLt_1_32 := by
  after_reads_simp
end Start

section Slots
theorem g3_v19 : after hostOps0_3 W main_v19 = Host.reduceWindow IntOp.addi ![1600000] ![1] ![1599999] ![0] (W main_v18 : IVec S1600000 32)
    (broadcastInDim S_ ![] bcast_S_S_ (constantI S_ 32 0#32)) reduceWindows_S1600000_S1600000_w1600000s1p1599999_0 h_S_ := by
  after_reads_simp
  have e : ∀ v : (⟨S1600000, .i32⟩ : BufTy).Contents (Elt Ideal), (TRef.of (T := ⟨S1600000, .i32⟩) main_v19).toBuf v = v := fun _ => rfl
  have e8 : ∀ v : (⟨S1600000, .i32⟩ : BufTy).Contents (Elt Ideal), (TRef.of (T := ⟨S1600000, .i32⟩) main_v18).ofBuf v = v := fun _ => rfl
  rw [e, TRef.ofBuf_toBuf, TRef.ofBuf_toBuf, e8]
theorem g3_v0 : after hostOps0_3 W main_v0 = W main_v0 := by after_reads_simp
theorem g3_v5 : after hostOps0_3 W main_v5 = W main_v5 := by after_reads_simp
theorem g3_v6 : after hostOps0_3 W main_v6 = W main_v6 := by after_reads_simp
theorem g3_v17 : after hostOps0_3 W main_v17 = W main_v17 := by after_reads_simp

theorem g4_v21 : after hostOps0_4 W main_v21 = subi (W main_v19 : IVec S1600000 32) (broadcastInDim S1600000 ![] bcast_S_S1600000 (constantI S_ 32 1#32)) := by
  after_reads_simp
theorem g4_c : after hostOps0_4 W main_c_1 = constantI S_ 32 4096#32 := by after_reads_simp
theorem g4_v0 : after hostOps0_4 W main_v0 = W main_v0 := by after_reads_simp
theorem g4_v5 : after hostOps0_4 W main_v5 = W main_v5 := by after_reads_simp
theorem g4_v6 : after hostOps0_4 W main_v6 = W main_v6 := by after_reads_simp
theorem g4_v17 : after hostOps0_4 W main_v17 = W main_v17 := by after_reads_simp

theorem g5_v22 : after hostOps0_5 W main_v22 = select (W main_v17 : IVec S1600000 1) (W main_v21 : IVec S1600000 32)
    (broadcastInDim S1600000 ![] bcast_S_S1600000 (W main_c_1 : IVec S_ 32)) := by
  after_reads_simp
  have e : ∀ v : (⟨S1600000, .i32⟩ : BufTy).Contents (Elt Ideal), (TRef.of (T := ⟨S1600000, .i32⟩) main_v22).toBuf v = v := fun _ => rfl
  rw [e, TRef.ofBuf_toBuf, TRef.ofBuf_toBuf]
  have e4 : ∀ v : (⟨S1600000, .i1⟩ : BufTy).Contents (Elt Ideal), (TRef.of (T := ⟨S1600000, .i1⟩) main_v17).ofBuf v = v := fun _ => rfl
  have e2 : ∀ v : (⟨S1600000, .i32⟩ : BufTy).Contents (Elt Ideal), (TRef.of (T := ⟨S1600000, .i32⟩) main_v21).ofBuf v = v := fun _ => rfl
  have ec : ∀ v : (⟨S_, .i32⟩ : BufTy).Contents (Elt Ideal), (TRef.of (T := ⟨S_, .i32⟩) main_c_1).ofBuf v = v := fun _ => rfl
  rw [e4, e2, ec]
  rfl
theorem g5_v0 : after hostOps0_5 W main_v0 = W main_v0 := by after_reads_simp
theorem g5_v5 : after hostOps0_5 W main_v5 = W main_v5 := by after_reads_simp
theorem g5_v6 : after hostOps0_5 W main_v6 = W main_v6 := by after_reads_simp
end Slots

section Pack
/-- The slots, wrapped from the end when negative, as one column. -/
def slotCol (v22 : IVec S1600000 32) : IVec S1600000x1 32 :=
  broadcastInDim S1600000x1 ![0] bcast_S1600000_S1600000x1_0
    (select (cmpi .slt v22 (broadcastInDim S1600000 ![] bcast_S_S1600000 (constantI S_ 32 0#32)))
      (addi v22 (broadcastInDim S1600000 ![] bcast_S_S1600000 (constantI S_ 32 4097#32))) v22)

theorem g6_v31 : after hostOps0_6 W main_v31 = extractStridedSlice S4096 ![0]
    (Host.scatter scatter_S4097_S1600000x1_S1600000_n_0_0_1 (fun _ b => b) (broadcastInDim S4097 ![] bcast_S_S4097 (constant (F := Ideal) S_ .f32 0x00000000#32))
      (slotCol (W main_v22)) (W main_v5 : FVec Ideal S1600000 .f32)) slices_S4097_S4096_0 := by
  after_reads_simp; rfl
theorem g6_v40 : after hostOps0_6 W main_v40 = extractStridedSlice S4096 ![0]
    (Host.scatter scatter_S4097_S1600000x1_S1600000_n_0_0_1 (fun _ b => b) (broadcastInDim S4097 ![] bcast_S_S4097 (constantI S_ 32 0#32))
      (slotCol (W main_v22)) (W main_v6 : IVec S1600000 32)) slices_S4097_S4096_0 := by
  after_reads_simp; rfl
theorem g6_c : after hostOps0_6 W main_c_8 = constantI S_ 32 80#32 := by after_reads_simp
theorem g6_v0 : after hostOps0_6 W main_v0 = W main_v0 := by after_reads_simp
end Pack

section Rows
/-- Floor division by the word `c`. -/
def floorDiv (x : IVec S4096 32) (c : IVec S_ 32) : IVec S4096 32 :=
  select
    (andi (cmpi .ne (signi x) (broadcastInDim S4096 ![] bcast_S_S4096 (signi c)))
      (cmpi .ne (Host.remsi x (broadcastInDim S4096 ![] bcast_S_S4096 c)) (broadcastInDim S4096 ![] bcast_S_S4096 (constantI S_ 32 0#32))))
    (subi (Host.divsi x (broadcastInDim S4096 ![] bcast_S_S4096 c)) (broadcastInDim S4096 ![] bcast_S_S4096 (constantI S_ 32 1#32)))
    (Host.divsi x (broadcastInDim S4096 ![] bcast_S_S4096 c))

theorem g7_v41 : after hostOps0_7 W main_v41 = floorDiv (W main_v40) (W main_c_8) := by
  after_reads_simp
  have e : ∀ v : (⟨S4096, .i32⟩ : BufTy).Contents (Elt Ideal), (TRef.of (T := ⟨S4096, .i32⟩) main_v41).toBuf v = v := fun _ => rfl
  have e0 : ∀ v : (⟨S4096, .i32⟩ : BufTy).Contents (Elt Ideal), (TRef.of (T := ⟨S4096, .i32⟩) main_v40).ofBuf v = v := fun _ => rfl
  have ec : ∀ v : (⟨S_, .i32⟩ : BufTy).Contents (Elt Ideal), (TRef.of (T := ⟨S_, .i32⟩) main_c_8).ofBuf v = v := fun _ => rfl
  simp only [TRef.ofBuf_toBuf]
  rw [e, e0, ec]
  rfl
theorem g7_v40 : after hostOps0_7 W main_v40 = W main_v40 := by after_reads_simp
theorem g7_v31 : after hostOps0_7 W main_v31 = W main_v31 := by after_reads_simp
theorem g7_v0 : after hostOps0_7 W main_v0 = W main_v0 := by after_reads_simp

/-- Row numbers, wrapped from the end when negative, as one column. -/
def rowCol (x : IVec S4096 32) : IVec S4096x1 32 :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 20000#32))) x)

/-- Which rows are in range. -/
def inRange (x : IVec S4096 32) : IVec S4096 1 :=
  Host.reduce IntOp.andi
    (andi (cmpi .sge (rowCol x) (broadcastInDim S4096x1 ![] bcast_S_S4096x1 (constantI S_ 32 0#32)))
      (cmpi .sle (rowCol x) (broadcastInDim S4096x1 ![0, 1] bcast_S1x1_S4096x1_0_1 (broadcastInDim S1x1 ![1] bcast_S1_S1x1_1 (constantI S1 32 19999#32)))))
    (constantI S_ 1 1#1) reducesTo_S4096x1_S4096_d1 h_S_

theorem g8_v42 : after hostOps0_8 W main_v42 = select (broadcastInDim S4096x4 ![0] bcast_S4096_S4096x4_0 (inRange (W main_v41)))
    (Host.gather gather_S20000x4_S4096x1_S4096x4_1_0_n_n_0_1_14 (W main_v0 : FVec Ideal S20000x4 .f32) (rowCol (W main_v41)))
    (broadcastInDim S4096x4 ![] bcast_S_S4096x4 (constant (F := Ideal) S_ .f32 0x7FC00000#32)) := by
  after_reads_simp
  have e : ∀ v : (⟨S4096x4, .f32⟩ : BufTy).Contents (Elt Ideal), (TRef.of (T := ⟨S4096x4, .f32⟩) main_v42).toBuf v = v := fun _ => rfl
  have e0 : ∀ v : (⟨S20000x4, .f32⟩ : BufTy).Contents (Elt Ideal), (TRef.of (T := ⟨S20000x4, .f32⟩) main_v0).ofBuf v = v := fun _ => rfl
  have e1 : ∀ v : (⟨S4096, .i32⟩ : BufTy).Contents (Elt Ideal), (TRef.of (T := ⟨S4096, .i32⟩) main_v41).ofBuf v = v := fun _ => rfl
  simp only [TRef.ofBuf_toBuf]
  rw [e, e0, e1]
  rfl
theorem g8_v40 : after hostOps0_8 W main_v40 = W main_v40 := by after_reads_simp
theorem g8_v31 : after hostOps0_8 W main_v31 = W main_v31 := by after_reads_simp
theorem g8_v0 : after hostOps0_8 W main_v0 = W main_v0 := by after_reads_simp
end Rows

section Table
/-- A list as one column. -/
def asCol (x : FVec Ideal S4096 .f32) : FVec Ideal S4096x1 .f32 := broadcastInDim S4096x1 ![0] bcast_S4096_S4096x1_0 x

/-- The table of candidates: value, position, the four coordinates, and two columns of zeros. -/
def tableArr (v31 : FVec Ideal S4096 .f32) (v40 : IVec S4096 32) (v42 : FVec Ideal S4096x4 .f32) : FVec Ideal S4096x8 .f32 :=
  concatenate S4096x8 1
    [⟨S4096x1, asCol v31⟩, ⟨S4096x1, asCol (sitofp (F := Ideal) .f32 v40)⟩,
      ⟨S4096x1, asCol (shapeCast S4096 (extractStridedSlice S4096x1 ![0, 0] v42 slices_S4096x4_S4096x1_0_0) shapeCasts_S4096x1_S4096)⟩,
      ⟨S4096x1, asCol (shapeCast S4096 (extractStridedSlice S4096x1 ![0, 1] v42 slices_S4096x4_S4096x1_0_1) shapeCasts_S4096x1_S4096)⟩,
      ⟨S4096x1, asCol (shapeCast S4096 (extractStridedSlice S4096x1 ![0, 2] v42 slices_S4096x4_S4096x1_0_2) shapeCasts_S4096x1_S4096)⟩,
      ⟨S4096x1, asCol (shapeCast S4096 (extractStridedSlice S4096x1 ![0, 3] v42 slices_S4096x4_S4096x1_0_3) shapeCasts_S4096x1_S4096)⟩,
      ⟨S4096x1, asCol (broadcastInDim S4096 ![] bcast_S_S4096 (constant (F := Ideal) S_ .f32 0x00000000#32))⟩,
      ⟨S4096x1, asCol (broadcastInDim S4096 ![] bcast_S_S4096 (constant (F := Ideal) S_ .f32 0x00000000#32))⟩]
    concatenates_S4096x1_S4096x1_S4096x1_S4096x1_S4096x1_S4096x1_S4096x1_S4096x1_S4096x8_d1

theorem g9_v61 : after hostOps0_9 W main_v61 = tableArr (W main_v31) (W main_v40) (W main_v42) := by
  after_reads_simp; rfl
theorem g9_v62 : after hostOps0_9 W main_v62 = shapeCast S1x4096 (W main_v31 : FVec Ideal S4096 .f32) shapeCasts_S4096_S1x4096 := by after_reads_simp; rfl
theorem g9_v63 : after hostOps0_9 W main_v63 = shapeCast S1x4096 (sitofp (F := Ideal) .f32 (W main_v40 : IVec S4096 32)) shapeCasts_S4096_S1x4096 := by after_reads_simp; rfl
theorem g9_v64 : after hostOps0_9 W main_v64 = shapeCast S625x128 (W main_v0 : FVec Ideal S20000x4 .f32) shapeCasts_S20000x4_S625x128 := by after_reads_simp; rfl
end Table
end Cert.Nms
end
-- ==== Proof.Pack.lean ====
/- Listing the members of a set of positions in order: the running count gives each member its place in the list. -/
module

public import Mathlib.Data.Finset.Sort
public import Mathlib.Order.Fin.Basic
public import Mathlib.Algebra.BigOperators.Fin
public import Mathlib.Order.Interval.Finset.Fin

@[expose] public section

noncomputable section

namespace Cert.Nms

variable {N K : ℕ} (S : Finset (Fin N)) (hS : S.card = K)

/-- The members of `S` in increasing order. -/
@[irreducible] def pos : Fin K ↪o Fin N := S.orderEmbOfFin hS

theorem pos_mem (l : Fin K) : pos S hS l ∈ S := by
  unfold pos; exact Finset.orderEmbOfFin_mem S hS l

theorem exists_pos {i : Fin N} (hi : i ∈ S) : ∃ l, pos S hS l = i := by
  have h : i ∈ Set.range (S.orderEmbOfFin hS) := by rw [Finset.range_orderEmbOfFin]; exact hi
  unfold pos
  exact h

/-- As many members lie before the `l`-th as there are numbers below `l`. -/
theorem card_before_pos (l : Fin K) : (S.filter (· < pos S hS l)).card = l.val := by
  have e : S.filter (· < pos S hS l) = (Finset.Iio l).map (pos S hS).toEmbedding := by
    ext i
    simp only [Finset.mem_filter, Finset.mem_map, Finset.mem_Iio]
    constructor
    · rintro ⟨hi, hlt⟩
      obtain ⟨k, rfl⟩ := exists_pos S hS hi
      exact ⟨k, (pos S hS).lt_iff_lt.1 hlt, rfl⟩
    · rintro ⟨k, hk, rfl⟩
      exact ⟨pos_mem S hS k, (pos S hS).lt_iff_lt.2 hk⟩
  rw [e, Finset.card_map, Fin.card_Iio]

/-- The place of a position in the list; `K`, past the list, when it is not in the set. -/
def slot (K : ℕ) (i : Fin N) : ℕ := if i ∈ S then (S.filter (· < i)).card else K

theorem slot_pos (l : Fin K) : slot S K (pos S hS l) = l.val := by
  unfold slot
  rw [if_pos (pos_mem S hS l), card_before_pos]

theorem eq_pos_of_slot {i : Fin N} {l : Fin K} (h : slot S K i = l.val) : i = pos S hS l := by
  by_cases hi : i ∈ S
  · obtain ⟨k, rfl⟩ := exists_pos S hS hi
    rw [slot_pos] at h
    rw [Fin.ext h]
  · unfold slot at h
    rw [if_neg hi] at h
    exact absurd h (by have := l.isLt; omega)

theorem slot_le (hS : S.card = K) (i : Fin N) : slot S K i ≤ K := by
  unfold slot
  split
  · exact (Finset.card_filter_le _ _).trans hS.le
  · exact le_rfl

theorem card_upto_of_mem {i : Fin N} (hi : i ∈ S) : (S.filter (· ≤ i)).card = (S.filter (· < i)).card + 1 := by
  have e : S.filter (· ≤ i) = insert i (S.filter (· < i)) := by
    ext j
    simp only [Finset.mem_filter, Finset.mem_insert, le_iff_lt_or_eq]
    constructor
    · rintro ⟨hj, h | h⟩
      · exact Or.inr ⟨hj, h⟩
      · exact Or.inl h
    · rintro (rfl | ⟨hj, h⟩)
      · exact ⟨hi, Or.inr rfl⟩
      · exact ⟨hj, Or.inl h⟩
  rw [e, Finset.card_insert_of_notMem (by simp)]

/-- One for a member, zero for the others. -/
def mark (n : ℕ) : ℕ := if h : n < N then if (⟨n, h⟩ : Fin N) ∈ S then 1 else 0 else 0

theorem mark_val (i : Fin N) : mark S i.val = if i ∈ S then 1 else 0 := by
  unfold mark
  rw [dif_pos i.isLt]

/-- The running count of the members. -/
theorem sum_mark (j : Fin N) : ((List.range (j.val + 1)).map (mark S)).sum = (S.filter (· ≤ j)).card := by
  have e : ((List.range (j.val + 1)).map (mark S)).sum = ∑ n ∈ Finset.range (j.val + 1), mark S n := rfl
  rw [e, Finset.card_filter]
  have h1 : (∑ i ∈ S, if i ≤ j then 1 else 0) = ∑ i : Fin N, if i.val < j.val + 1 then mark S i.val else 0 := by
    rw [← Finset.sum_filter_add_sum_filter_not Finset.univ (· ∈ S)]
    rw [Finset.sum_eq_zero (s := Finset.univ.filter fun i => i ∉ S) (fun i hi => by
      rw [mark_val, if_neg (Finset.mem_filter.1 hi).2, ite_self]), add_zero]
    have e2 : Finset.univ.filter (· ∈ S) = S := by ext; simp
    rw [e2]
    refine Finset.sum_congr rfl fun i hi => ?_
    rw [mark_val, if_pos hi]
    refine if_congr ?_ rfl rfl
    rw [Fin.le_def, Nat.lt_succ_iff]
  rw [h1, Fin.sum_univ_eq_sum_range (fun n => if n < j.val + 1 then mark S n else 0) N, ← Finset.sum_filter]
  refine Finset.sum_congr ?_ fun _ _ => rfl
  ext n
  have := j.isLt
  simp only [Finset.mem_range, Finset.mem_filter]
  omega

end Cert.Nms
end
-- ==== Proof.Lands.lean ====
/- A scatter that sets, from any number of updates into a list, read at one entry. -/
module

public import Idealize.ShloMosaic.Lib.Routing.OpsSet

@[expose] public section

namespace Cert.Nms

open Idealize.ShloMosaic Idealize.ShloMosaic.ValueIdx Idealize.ShloMosaic.Routing

variable {n N : ℕ} (d : ScatterDims (shape1 N) (shape2 n 1) (shape1 n)) (hiw : d.insertedWindowDims = [0])
  (hsd : d.scatterDimsToOperandDims = [0]) (hivd : d.indexVectorDim = 1)

include hiw hsd hivd in
/-- Update `i` lands at entry `x` exactly when its index word is `x`. -/
theorem lands_iff (idx : IVec (shape2 n 1) 32) (i : Fin n) (x : Fin N) :
    d.resultIdx? (ix1 i) idx = some (ix1 x) ↔ (idx (ix2 i (0 : Fin 1))).toInt = (x.val : Int) := by
  have hm : (0 : Fin 1) ∈ d.scatterDimsToOperandDims := hsd ▸ List.mem_singleton.2 rfl
  have hwin : d.window (ix1 i) 0 = 0 := by
    unfold ScatterDims.window
    rw [dif_neg fun h => (of_decide_eq_true (List.mem_filter.1 h).2) (by rw [hiw]; exact List.mem_singleton.2 rfl)]
  have hsi : d.siIdx (ix1 i) ⟨d.scatterDimsToOperandDims.idxOf 0, List.idxOf_lt_length_iff.2 hm⟩ = ix2 i (0 : Fin 1) := by
    funext b
    refine Fin.ext ?_
    unfold ScatterDims.siIdx
    match b with
    | ⟨0, _⟩ =>
      rw [dif_neg (by rw [hivd]; exact Nat.zero_ne_one)]
      have e : ∀ X : Fin 1, (ix1 i X).val = i.val := fun X => Subsingleton.elim 0 X ▸ rfl
      unfold ScatterDims.siCoord
      exact e _
    | ⟨1, _⟩ =>
      rw [dif_pos hivd.symm]
      show List.idxOf (0 : Fin 1) d.scatterDimsToOperandDims = 0
      rw [hsd, List.idxOf_cons_self]
  have hst : d.start (ix1 i) idx 0 = (idx (ix2 i (0 : Fin 1))).toInt := by
    unfold ScatterDims.start
    rw [dif_pos hm, hsi]
  have hpl : d.start (ix1 i) idx 0 + (d.window (ix1 i) 0 : Int) = (idx (ix2 i (0 : Fin 1))).toInt := by
    rw [hst, hwin, Nat.cast_zero, add_zero]
  have hx := x.isLt
  unfold ScatterDims.resultIdx?
  split
  · next h =>
    have h0 : 0 ≤ (idx (ix2 i (0 : Fin 1))).toInt := hpl ▸ (h 0).1
    refine ⟨fun e => ?_, fun e => congrArg some (funext fun a => Fin.ext ?_)⟩
    · have e0 : (d.start (ix1 i) idx 0 + (d.window (ix1 i) 0 : Int)).toNat = x.val :=
        congrArg Fin.val (congrFun (Option.some.inj e) 0)
      rw [hpl] at e0
      omega
    · obtain rfl : a = 0 := Subsingleton.elim _ _
      show (d.start (ix1 i) idx 0 + (d.window (ix1 i) 0 : Int)).toNat = x.val
      rw [hpl]
      omega
  · next h =>
    refine ⟨fun e => (nomatch e), fun e => (h fun a => ?_).elim⟩
    obtain rfl : a = 0 := Subsingleton.elim _ _
    show 0 ≤ d.start (ix1 i) idx 0 + (d.window (ix1 i) 0 : Int) ∧ d.start (ix1 i) idx 0 + (d.window (ix1 i) 0 : Int) < (N : Int)
    rw [hpl]
    omega

include hiw hsd hivd in
/-- Where one update alone is sent to an entry, the entry holds it. -/
theorem set_at {α : Type} (x0 : (shape1 N).Idx → α) (idx : IVec (shape2 n 1) 32) (upd : (shape1 n).Idx → α) (i : Fin n) (x : Fin N)
    (hi : (idx (ix2 i (0 : Fin 1))).toInt = (x.val : Int))
    (h1 : ∀ k : Fin n, (idx (ix2 k (0 : Fin 1))).toInt = (x.val : Int) → k = i) :
    Host.scatter d (fun _ b => b) x0 idx upd (ix1 x) = upd (ix1 i) := by
  refine scatter_set_hit d x0 idx upd (ix1 x) (upd (ix1 i)) (fun k hk => ?_) (ix1 i) ((lands_iff d hiw hsd hivd idx i x).2 hi)
  rw [eq_ix1 k] at hk ⊢
  exact congrArg (fun j => upd (ix1 j)) (h1 _ ((lands_iff d hiw hsd hivd idx _ x).1 hk))

end Cert.Nms
-- ==== Proof.Slots.lean ====
/- The compaction before the call: the running count sends every selected position to its place in the list, so the
   lists hold the selected values and positions in order. -/
module

public import proofs.«01_k».proof.Proof.HostRead
public import proofs.«01_k».proof.Proof.Pack
public import proofs.«01_k».proof.Proof.Lands
public import Idealize.ShloMosaic.Lib.Pointwise
public import Idealize.ShloMosaic.Lib.Routing.Words

@[expose] public section

set_option maxRecDepth 16384

noncomputable section

namespace Cert.Nms

open Cert.KernelIdeal Cert.KernelIdeal.Gen
open Idealize.ShloMosaic Idealize.ShloMosaic.TcCoe Idealize.ShloMosaic.Routing

/-- The selected positions. -/
def chosen (v17 : IVec S1600000 1) : Finset (Fin 1600000) := Finset.univ.filter fun i => v17 (ix1 i) = 1#1

theorem mem_chosen (v17 : IVec S1600000 1) (i : Fin 1600000) : i ∈ chosen v17 ↔ v17 (ix1 i) = 1#1 := by
  unfold chosen
  rw [Finset.mem_filter]
  exact and_iff_right (Finset.mem_univ _)

/-- The words of the slots, from the selection. -/
def slotWords (v17 : IVec S1600000 1) (v19 : IVec S1600000 32) : IVec S1600000 32 :=
  select v17 (subi v19 (broadcastInDim S1600000 ![] bcast_S_S1600000 (constantI S_ 32 1#32)))
    (broadcastInDim S1600000 ![] bcast_S_S1600000 (constantI S_ 32 4096#32))

/-- The running count of the selection. -/
def runCount (v18 : IVec S1600000 32) : IVec S1600000 32 :=
  Host.reduceWindow IntOp.addi ![1600000] ![1] ![1599999] ![0] v18
    (broadcastInDim S_ ![] bcast_S_S_ (constantI S_ 32 0#32)) reduceWindows_S1600000_S1600000_w1600000s1p1599999_0 h_S_

theorem bit_cases (b : BitVec 1) : b = 0#1 ∨ b = 1#1 := by
  revert b; decide

theorem word_of_bit (v17 : IVec S1600000 1) (i : Fin 1600000) :
    extui 32 v17 natLt_1_32 (ix1 i) = BitVec.ofNat 32 (mark (chosen v17) i.val) := by
  rw [mark_val]
  show (v17 (ix1 i)).setWidth 32 = _
  rcases bit_cases (v17 (ix1 i)) with h | h
  · rw [if_neg (fun hm => by rw [mem_chosen, h] at hm; exact absurd hm (by decide)), h]
    rfl
  · rw [if_pos ((mem_chosen v17 i).2 h), h]
    rfl

theorem runCount_at (v17 : IVec S1600000 1) (i : Fin 1600000) :
    runCount (extui 32 v17 natLt_1_32) (ix1 i) = BitVec.ofNat 32 ((chosen v17).filter (· ≤ i)).card := by
  rw [← sum_mark]
  exact cumsum1 (N := 1600000) (Nm1 := 1599999) rfl _ (mark (chosen v17)) (word_of_bit v17) _ rfl _ _ i

/-- Every position's slot word is its slot. -/
theorem slotWords_at (v17 : IVec S1600000 1) (i : Fin 1600000) :
    slotWords v17 (runCount (extui 32 v17 natLt_1_32)) (ix1 i) = BitVec.ofNat 32 (slot (chosen v17) 4096 i) := by
  have e : slotWords v17 (runCount (extui 32 v17 natLt_1_32)) (ix1 i)
      = if v17 (ix1 i) = 1#1 then runCount (extui 32 v17 natLt_1_32) (ix1 i) - 1#32 else 4096#32 := by
    unfold slotWords
    generalize runCount _ = w
    pointwise
    rfl
  rw [e, runCount_at]
  unfold slot
  by_cases h : i ∈ chosen v17
  · rw [if_pos ((mem_chosen v17 i).1 h), if_pos h, card_upto_of_mem _ h]
    generalize ((chosen v17).filter (· < i)).card = k
    rw [BitVec.ofNat_add, BitVec.add_sub_cancel]
  · rw [if_neg (fun hm => h ((mem_chosen v17 i).2 hm)), if_neg h]

/-- Below `2 ^ 31` a word is not wrapped. -/
theorem slotCol_at (v22 : IVec S1600000 32) (i : Fin 1600000) (k : ℕ) (hk : k ≤ 4096) (h : v22 (ix1 i) = BitVec.ofNat 32 k) :
    (slotCol v22 (ix2 i 0)).toInt = (k : ℤ) := by
  have e : slotCol v22 (ix2 i 0) = Scalar.select (IntOp.cmpi .slt (v22 (ix1 i)) 0#32) (IntOp.addi (v22 (ix1 i)) 4097#32) (v22 (ix1 i)) := by
    unfold slotCol
    pointwise
  have ht := StableHlo.Predicate.toInt_ofNat_small k (by omega)
  have hs : (BitVec.ofNat 32 k).slt 0#32 = false := by
    rw [BitVec.slt, ht]
    exact decide_eq_false (by simp)
  have hc : IntOp.cmpi .slt (BitVec.ofNat 32 k) 0#32 = 0#1 := congrArg BitVec.ofBool hs
  rw [e, h, hc]
  exact ht

section
variable {α : Type} (v17 : IVec S1600000 1) (hS : (chosen v17).card = 4096)

/-- The list holds at `l` the update at the `l`-th selected position. -/
theorem packed (x0 : S4097.Idx → α) (upd : S1600000.Idx → α) (l : Fin 4096) :
    extractStridedSlice S4096 ![0] (Host.scatter scatter_S4097_S1600000x1_S1600000_n_0_0_1 (fun _ b => b) x0
      (slotCol (slotWords v17 (runCount (extui 32 v17 natLt_1_32)))) upd) slices_S4097_S4096_0 (ix1 l) = upd (ix1 (pos (chosen v17) hS l)) := by
  have hw := fun i => slotCol_at _ i _ (slot_le (chosen v17) hS i) (slotWords_at v17 i)
  generalize slotCol _ = col at hw
  have h := set_at (n := 1600000) (N := 4097) scatter_S4097_S1600000x1_S1600000_n_0_0_1 rfl rfl rfl x0 col upd (pos (chosen v17) hS l) ⟨l.val, by omega⟩
    ((hw _).trans (congrArg Nat.cast (slot_pos _ hS l)))
    (fun k hk => eq_pos_of_slot _ hS (Nat.cast_injective (R := ℤ) ((hw k).symm.trans hk)))
  generalize Host.scatter _ _ _ _ _ = y at h ⊢
  refine Eq.trans (congrArg y (funext fun a => ?_)) h
  obtain rfl : a = 0 := Subsingleton.elim _ _
  exact Fin.ext (show 0 + l.val = l.val by omega)
end

end Cert.Nms
end
-- ==== Proof.Trips.lean ====
module

public import proofs.«01_k».proof.Proof.Gen.KernelIdeal.Value

@[expose] public section

set_option maxRecDepth 16384

noncomputable section

namespace Cert.Nms

open Cert.KernelIdeal Cert.KernelIdeal.Gen
open Idealize.ShloMosaic Idealize.ShloMosaic.TcCoe Idealize.ShloMosaic.Tactic

variable {F : FTy → Type} [FloatOps F]
variable (𝒱 : Variants) (c : Dev nD) (bd : Option 𝒱.V) (arg0 : Memref sig .tc .vmem S4096x8 .f32) (harg0 : arg0.IsWhole) (arg1 : Memref sig .tc .vmem S1x4096 .f32) (harg1 : arg1.IsWhole) (arg2 : Memref sig .tc .vmem S1x4096 .f32) (harg2 : arg2.IsWhole) (arg3 : Memref sig .tc .vmem S625x128 .f32) (harg3 : arg3.IsWhole) (arg4 : Memref sig .tc .smem S300x4 .f32) (harg4 : arg4.IsWhole) (arg5 : Memref sig .tc .smem S300 .f32) (harg5 : arg5.IsWhole) (arg6 : Memref sig .tc .smem S300 .i32) (harg6 : arg6.IsWhole) (arg7 : Memref sig .tc .smem S1 .i32) (harg7 : arg7.IsWhole) (arg8 : Memref sig .tc .vmem S4096x1 .i32) (harg8 : arg8.IsWhole) (arg9 : Memref sig .tc .vmem S4096x8 .f32) (harg9 : arg9.IsWhole)

/-- One trip of the rank loop stores one piece: the rank counts of its 128 rows. -/
theorem trip1 (v0 v2 : Vec F S1x4096 .f32) (X : BufTy.Contents (Elt F) arg0.view.ty) (k : Fin k0_t1_loop.trips) :
    (trip_k0_t1 (F := F) 𝒱 c bd arg0 harg0 arg1 harg1 arg2 harg2 arg3 harg3 arg4 harg4 arg5 harg5 arg6 harg6 arg7 harg7 arg8 harg8 arg9 harg9 v0 v2 X k).1
      = [⟨Rect.unit (s := S4096x1) (k0_off3 k) S128x1.size (k0_off3_inb k),
          k0_pay16 v0 v2 (arg0.view.readAt (Elt F) (Rect.unit (s := S4096x8) (k0_off1 k) S128x1.size (k0_off1_inb k)).toLoadRect X)
            (arg0.view.readAt (Elt F) (Rect.unit (s := S4096x8) (k0_off2 k) S128x1.size (k0_off2_inb k)).toLoadRect X)⟩] := by
  unfold trip_k0_t1
  rfl

/-- One trip of the permutation loop stores one piece: 128 sorted rows. -/
theorem trip2 (v5 : Vec F S4096x8 .f32) (v7 : Vec F S4096x1 .i32) (k : Fin k0_t2_loop.trips) :
    (trip_k0_t2 (F := F) 𝒱 c bd arg0 harg0 arg1 harg1 arg2 harg2 arg3 harg3 arg4 harg4 arg5 harg5 arg6 harg6 arg7 harg7 arg8 harg8 arg9 harg9 v5 v7 k).1
      = [⟨Rect.unit (s := S4096x8) (k0_off4 k) S128x8.size (k0_off4_inb k), k0_pay17 v5 v7 k⟩] := by
  unfold trip_k0_t2
  rfl

/-- Whether a trip of the suppression loop finds a candidate standing. -/
def hit (x : FVec F S32x128 .f32) : BitVec 1 :=
  Scalar.cmpi .slt (extractAt ![0, 0, 0] (k0_pay1 (F := F) k0_pay31 4096#32 x) inpos_S1x1x1_p0_0_0) 4096#32

section Suppress
variable (v11 v15 v17 v19 v21 : FVec F S32x128 .f32) (v24 : BitVec 32) (v26 : IVec S32x128 32) (v40 : Vec F S625x128 .f32) (k : Fin k0_t3_loop.trips)
  (acc : FVec F S32x128 .f32 × BitVec 32)

/-- What a trip of the suppression loop carries on. -/
theorem trip3 :
    (trip_k0_t3 (F := F) 𝒱 c bd arg0 harg0 arg1 harg1 arg2 harg2 arg3 harg3 arg4 harg4 arg5 harg5 arg6 harg6 arg7 harg7 arg8 harg8 arg9 harg9 v11 v15 v17 v19 v21 v24 v26 v40 k).1 acc
      = (k0_pay13 (k0_pay26 v15 v24 v26 v40) (k0_pay27 v17 v24 v26 v40) (k0_pay28 v19 v24 v26 v40) (k0_pay29 v21 v24 v26 v40) (k0_pay30 v15 v17 v19 v21 v24 v26 v40) acc.1
          (k0_pay6 (k0_pay26 v15 v24 v26 v40) k0_pay31 4096#32 acc.1) (k0_pay7 (k0_pay27 v17 v24 v26 v40) k0_pay31 4096#32 acc.1)
          (k0_pay8 (k0_pay28 v19 v24 v26 v40) k0_pay31 4096#32 acc.1) (k0_pay9 (k0_pay29 v21 v24 v26 v40) k0_pay31 4096#32 acc.1),
        Scalar.addi acc.2 (Scalar.extui (hit acc.1))) := by
  unfold trip_k0_t3
  rfl

/-- The four cells of a box row, last first. -/
theorem trip3_box :
    (trip_k0_t3 (F := F) 𝒱 c bd arg0 harg0 arg1 harg1 arg2 harg2 arg3 harg3 arg4 harg4 arg5 harg5 arg6 harg6 arg7 harg7 arg8 harg8 arg9 harg9 v11 v15 v17 v19 v21 v24 v26 v40 k).2.1 acc
      = [⟨Rect.unit (s := S300x4) (k0_off8 k) S1x1.size (k0_off8_inb k), fun _ => k0_pay34 (k0_pay2 k0_pay31 4096#32 acc.1) (k0_pay12 v21 (k0_pay3 k0_pay31 4096#32 acc.1))⟩,
         ⟨Rect.unit (s := S300x4) (k0_off7 k) S1x1.size (k0_off7_inb k), fun _ => k0_pay33 (k0_pay2 k0_pay31 4096#32 acc.1) (k0_pay11 v19 (k0_pay3 k0_pay31 4096#32 acc.1))⟩,
         ⟨Rect.unit (s := S300x4) (k0_off6 k) S1x1.size (k0_off6_inb k), fun _ => k0_pay15 v17 (k0_pay2 k0_pay31 4096#32 acc.1) (k0_pay3 k0_pay31 4096#32 acc.1)⟩,
         ⟨Rect.unit (s := S300x4) (k0_off5 k) S1x1.size (k0_off5_inb k), fun _ => k0_pay14 (k0_pay2 k0_pay31 4096#32 acc.1) (k0_pay10 v15 k0_pay31 4096#32 acc.1)⟩] := by
  unfold trip_k0_t3
  rfl

/-- The score cell. -/
theorem trip3_score :
    (trip_k0_t3 (F := F) 𝒱 c bd arg0 harg0 arg1 harg1 arg2 harg2 arg3 harg3 arg4 harg4 arg5 harg5 arg6 harg6 arg7 harg7 arg8 harg8 arg9 harg9 v11 v15 v17 v19 v21 v24 v26 v40 k).2.2.1 acc
      = [⟨Rect.unit (s := S300) (k0_off9 k) S1.size (k0_off9_inb k), fun _ => k0_pay35 (k0_pay2 k0_pay31 4096#32 acc.1) (k0_pay4 v11 k0_pay31 4096#32 acc.1)⟩] := by
  unfold trip_k0_t3
  rfl

/-- The class cell. -/
theorem trip3_class :
    (trip_k0_t3 (F := F) 𝒱 c bd arg0 harg0 arg1 harg1 arg2 harg2 arg3 harg3 arg4 harg4 arg5 harg5 arg6 harg6 arg7 harg7 arg8 harg8 arg9 harg9 v11 v15 v17 v19 v21 v24 v26 v40 k).2.2.2.1 acc
      = [⟨Rect.unit (s := S300) (k0_off9 k) S1.size (k0_off9_inb k),
          fun _ => Scalar.select (hit acc.1) (Scalar.fptosi 32 (k0_pay5 (k0_pay24 (F := F) v24 v26) k0_pay31 4096#32 acc.1)) 4294967295#32⟩] := by
  unfold trip_k0_t3
  rfl

end Suppress

end Cert.Nms
end
-- ==== Proof.Lays.lean ====
/- Lists of stores that together lay down one array. -/
module

public import proofs.«01_k».proof.Proof.Gen.KernelIdeal.Value
public import Idealize.ShloMosaic.PureOps.Ideal

@[expose] public section

noncomputable section

namespace Cert.Nms

open Idealize.ShloMosaic

/-- The pieces lay down `G`, and cover every index whose first coordinate is below `n`. -/
def Lays {s : Shape} {e : EltTy} (a : Fin s.rank) (n : ℕ) (L : List (View.Piece (Elt Ideal) s e)) (G : s.Idx → Elt Ideal e) : Prop :=
  (∀ p ∈ L, ∀ x, p.2 x = G (p.1.emb x)) ∧ ∀ y : s.Idx, (y a).val < n → ∃ p ∈ L, y ∈ p.1.set

theorem Lays.nil {s : Shape} {e : EltTy} (a : Fin s.rank) (G : s.Idx → Elt Ideal e) : Lays a 0 [] G :=
  ⟨fun p hp => absurd hp List.not_mem_nil, fun y hy => absurd hy (Nat.not_lt_zero _)⟩

/-- One more row's pieces. -/
theorem Lays.append {s : Shape} {e : EltTy} (a : Fin s.rank) (n m : ℕ) (L N : List (View.Piece (Elt Ideal) s e)) (G : s.Idx → Elt Ideal e)
    (h : Lays a n L G) (hN : ∀ p ∈ N, ∀ x, p.2 x = G (p.1.emb x)) (hc : ∀ y : s.Idx, n ≤ (y a).val → (y a).val < m → ∃ p ∈ N, y ∈ p.1.set) :
    Lays a m (N ++ L) G := by
  refine ⟨fun p hp => (List.mem_append.1 hp).elim (hN p) (h.1 p), fun y hy => ?_⟩
  by_cases hn : (y a).val < n
  · obtain ⟨p, hp, hy⟩ := h.2 y hn
    exact ⟨p, List.mem_append_right _ hp, hy⟩
  · obtain ⟨p, hp, hy⟩ := hc y (by omega) hy
    exact ⟨p, List.mem_append_left _ hp, hy⟩

/-- Pieces that lay down `G` everywhere read back as `G`. -/
theorem Lays.read {s : Shape} {e : EltTy} (a : Fin s.rank) (n : ℕ) (L : List (View.Piece (Elt Ideal) s e)) (G : s.Idx → Elt Ideal e)
    (h : Lays a n L G) (hn : s.size a ≤ n) : View.canon L = G :=
  funext fun y => View.canon_apply_of_pieces G L h.1 y (h.2 y (lt_of_lt_of_le (y a).isLt hn))

end Cert.Nms
end
-- ==== Proof.Order.lean ====
/- The order of candidates: higher score first, earlier position first among equals; a candidate's rank in it. -/
module

public import Mathlib.Data.EReal.Basic
public import Mathlib.Data.Fintype.Card
public import Mathlib.Data.Fintype.EquivFin

@[expose] public section

noncomputable section

namespace Cert.Nms

/-- `i` comes before `j`: a higher score, or the same score at an earlier position. -/
def Before {ι : Type} (f : ι → EReal) (g : ι → ℕ) (i j : ι) : Prop := f j < f i ∨ (f i = f j ∧ g i < g j)

section Total
variable {ι : Type} (f : ι → EReal) (g : ι → ℕ)

theorem Before.irrefl (i : ι) : ¬ Before f g i i := fun h => h.elim (lt_irrefl _) fun h => lt_irrefl _ h.2

theorem Before.trans (i j k : ι) (h : Before f g i j) (h' : Before f g j k) : Before f g i k := by
  rcases h with h | ⟨h, h1⟩ <;> rcases h' with h' | ⟨h', h2⟩
  · exact .inl (h'.trans h)
  · exact .inl (h'.symm ▸ h)
  · exact .inl (h ▸ h')
  · exact .inr ⟨h.trans h', h1.trans h2⟩

theorem Before.total (hg : Function.Injective g) (i j : ι) (h : i ≠ j) : Before f g i j ∨ Before f g j i := by
  rcases lt_trichotomy (f i) (f j) with h1 | h1 | h1
  · exact .inr (.inl h1)
  · rcases lt_or_gt_of_ne (fun e => h (hg e) : g i ≠ g j) with h2 | h2
    · exact .inl (.inr ⟨h1, h2⟩)
    · exact .inr (.inr ⟨h1.symm, h2⟩)
  · exact .inl (.inl h1)
end Total

open Classical in
/-- How many come before `j`. -/
@[irreducible] def rank {ι : Type} [Fintype ι] (f : ι → EReal) (g : ι → ℕ) (j : ι) : ℕ := (Finset.univ.filter fun i => Before f g i j).card

section Rank
variable {ι : Type} [Fintype ι] (f : ι → EReal) (g : ι → ℕ)

theorem rank_eq (j : ι) (p : ι → Prop) [DecidablePred p] (h : ∀ i, p i ↔ Before f g i j) : (Finset.univ.filter p).card = rank f g j := by
  unfold rank
  congr 1
  ext i
  simp only [Finset.mem_filter, Finset.mem_univ, true_and]
  exact h i

theorem rank_lt_of_before (i j : ι) (h : Before f g i j) : rank f g i < rank f g j := by
  classical
  unfold rank
  apply Finset.card_lt_card
  constructor
  · intro k hk
    simp only [Finset.mem_filter, Finset.mem_univ, true_and] at hk ⊢
    exact Before.trans f g _ _ _ hk h
  · intro hs
    have := hs (Finset.mem_filter.2 ⟨Finset.mem_univ i, h⟩)
    exact Before.irrefl f g i (Finset.mem_filter.1 this).2

theorem rank_lt_card (j : ι) : rank f g j < Fintype.card ι := by
  classical
  unfold rank
  apply Finset.card_lt_univ_of_notMem (x := j)
  intro h
  exact Before.irrefl f g j (Finset.mem_filter.1 h).2

theorem rank_injective (hg : Function.Injective g) : Function.Injective (rank f g) := by
  intro i j h
  by_contra hne
  rcases Before.total f g hg i j hne with hb | hb
  · exact absurd h (rank_lt_of_before f g _ _ hb).ne
  · exact absurd h (rank_lt_of_before f g _ _ hb).ne'
end Rank

/-- Ranks as a permutation. -/
def rankE {n : ℕ} (f : Fin n → EReal) (g : Fin n → ℕ) (hg : Function.Injective g) : Fin n ≃ Fin n :=
  Equiv.ofBijective (fun i => ⟨rank f g i, by simpa using rank_lt_card f g i⟩)
    (Finite.injective_iff_bijective.1 fun i j h => rank_injective f g hg (Fin.mk.inj h))

theorem rankE_val {n : ℕ} (f : Fin n → EReal) (g : Fin n → ℕ) (hg : Function.Injective g) (i : Fin n) : (rankE f g hg i).val = rank f g i := rfl

/-- Ranks among selected positions are ranks among all, when whoever comes before a selected position is selected. -/
theorem rank_selected {n M : ℕ} (F : Fin M → EReal) (pos : Fin n → Fin M) (hp : Function.Injective pos)
    (up : ∀ i k, Before F (fun p => p.val) i (pos k) → ∃ l, pos l = i) (k : Fin n) :
    rank (fun l => F (pos l)) (fun l => (pos l).val) k = rank F (fun p => p.val) (pos k) := by
  classical
  unfold rank
  rw [← Finset.card_image_of_injective (Finset.univ.filter fun i => Before (fun l => F (pos l)) (fun l => (pos l).val) i k) hp]
  congr 1
  ext i
  simp only [Finset.mem_image, Finset.mem_filter, Finset.mem_univ, true_and]
  constructor
  · rintro ⟨l, hl, rfl⟩
    exact hl
  · intro h
    obtain ⟨l, rfl⟩ := up i k h
    exact ⟨l, h, rfl⟩

end Cert.Nms
end
-- ==== Proof.Spread.lean ====
/- The 32 × 128 arrays of the suppression loop as functions of the candidate's number 128·row + lane, and what the
   one-hot sums and the least-index search read off them. -/
module

public import proofs.«01_k».proof.Proof.Model
public import proofs.«01_k».proof.Proof.Gen.KernelIdeal.Skeleton
public import Idealize.ShloMosaic.Lib.ValueIdx
public import Idealize.ShloMosaic.Lib.ValueLayout
public import Idealize.ShloMosaic.Lib.Pipeline.Value
public import Idealize.ShloMosaic.Lib.KernelVsHost

@[expose] public section

noncomputable section

namespace Cert.Nms

open Cert.KernelIdeal Cert.KernelIdeal.Gen
open Idealize.ShloMosaic Idealize.ShloMosaic.ValueIdx

/-- The candidate a cell of the 32 × 128 array stands for. -/
def cell (i : S32x128.Idx) : Fin 4096 :=
  ⟨(i 0).val * 128 + (i 1).val, by
    have h0 : (i 0).val < 32 := (i 0).isLt
    have h1 : (i 1).val < 128 := (i 1).isLt
    omega⟩

/-- The cell of a candidate. -/
def home (r : Fin 4096) : S32x128.Idx := ix2 (⟨r.val / 128, by omega⟩ : Fin 32) (⟨r.val % 128, by omega⟩ : Fin 128)

theorem cell_home (r : Fin 4096) : cell (home r) = r := by
  apply Fin.ext
  show r.val / 128 * 128 + r.val % 128 = r.val
  omega

theorem home_cell (i : S32x128.Idx) : home (cell i) = i := by
  have h0 : (i 0).val < 32 := (i 0).isLt
  have h1 : (i 1).val < 128 := (i 1).isLt
  rw [eq_ix2 i]
  unfold home cell
  congr 1
  · apply Fin.ext; show ((i 0).val * 128 + (i 1).val) / 128 = (i 0).val; omega
  · apply Fin.ext; show ((i 0).val * 128 + (i 1).val) % 128 = (i 1).val; omega

/-- Cells and candidates, one to one. -/
def cellE : S32x128.Idx ≃ Fin 4096 := ⟨cell, home, home_cell, cell_home⟩

/-- A list over the candidates laid out in the array. -/
def spread {α : Type} (f : Fin 4096 → α) : S32x128.Idx → α := fun i => f (cell i)

/-- A truth value as the number the kernel keeps. -/
def bit (b : Bool) : EReal := if b then 1 else 0

/-- The word −: one for true, zero for false, as a float. -/
theorem sitofp_bit (b : Bool) : (Scalar.sitofp .f32 (Scalar.extui (BitVec.ofBool b) : BitVec 32) : Ideal .f32) = bit b := by
  cases b
  · show (((0#32 : BitVec 32).toInt : ℝ) : EReal) = 0
    simp
  · show (((1#32 : BitVec 32).toInt : ℝ) : EReal) = 1
    simp

theorem pay31_apply (i : S32x128.Idx) : k0_pay31 i = BitVec.ofNat 32 (cell i).val := by
  have h0 : (i 0).val < 32 := (i 0).isLt
  have h1 : (i 1).val < 128 := (i 1).isLt
  unfold k0_pay31
  show IntOp.addi (IntOp.muli (iota .tc S32x128 32 [0] iota_S32x128_d0_w32 i) 128#32) (iota .tc S32x128 32 [1] iota_S32x128_d1_w32 i) = _
  rw [iota_single_apply, iota_single_apply]
  apply BitVec.eq_of_toNat_eq
  show ((BitVec.ofNat 32 (i 0).val * 128#32) + BitVec.ofNat 32 (i 1).val).toNat = (BitVec.ofNat 32 ((i 0).val * 128 + (i 1).val)).toNat
  simp [BitVec.toNat_add, BitVec.toNat_mul, BitVec.toNat_ofNat]

/-- The whole 32 × 128 array summed, as the kernel does it, is the sum over the candidates. -/
theorem sum_all (f : Fin 4096 → EReal) (x : FVec Ideal S32x128 .f32) (hx : ∀ i, x i = f (cell i)) :
    extractAt ![0, 0, 0] (shapeCast S1x1x1 (multiReduction .add [1, 2] S1 (shapeCast S1x32x128 x shapeCasts_S32x128_S1x32x128)
      0x00000000#32 reduces_S1x32x128_S1 (.inl rfl) rfl) shapeCasts_S1_S1x1x1) inpos_S1x1x1_p0_0_0 = ∑ r, f r := by
  have key : ∀ j : S1.Idx, (multiReduction .add [1, 2] S1 (shapeCast S1x32x128 x shapeCasts_S32x128_S1x32x128)
      0x00000000#32 reduces_S1x32x128_S1 (.inl rfl) rfl : FVec Ideal S1 .f32) j = ∑ r, f r := by
    intro j
    show (∑ i ∈ Finset.univ.filter (fun i => reduces_S1x32x128_S1.drop i = j), shapeCast S1x32x128 x shapeCasts_S32x128_S1x32x128 i) = _
    have hj : ∀ k : S1.Idx, k = j := fun k => funext fun a => by
      obtain rfl : a = 0 := Subsingleton.elim _ _
      have h1 : (k 0).val < 1 := (k 0).isLt
      have h2 : (j 0).val < 1 := (j 0).isLt
      exact Fin.ext (by omega)
    rw [Finset.filter_true_of_mem (fun i _ => hj _)]
    rw [← Equiv.sum_comp cellE f]
    show (∑ i : S1x32x128.Idx, x (Shape.reshapeEquiv _ i)) = _
    rw [Equiv.sum_comp (Shape.reshapeEquiv shapeCasts_S32x128_S1x32x128) (fun i => x i)]
    exact Finset.sum_congr rfl fun i _ => hx i
  exact key _

end Cert.Nms
end
-- ==== Proof.Table.lean ====
/- From the sorted table to the arrays the suppression loop reads: scores, corners, classes, moved corners and areas. -/
module

public import proofs.«01_k».proof.Proof.Spread
public import Idealize.ShloMosaic.Lib.Pointwise
public import Idealize.ShloMosaic.Lib.Routing.Words

@[expose] public section

set_option maxRecDepth 16384

noncomputable section

namespace Cert.Nms

open Cert.KernelIdeal Cert.KernelIdeal.Gen
open Idealize.ShloMosaic

/-- A column of the table holds the list `f`. -/
def Holds (T : Vec Ideal S4096x1 .f32) (f : Fin 4096 → EReal) : Prop := ∀ r, T (ix2 r 0) = f r

section Plain
variable (T : Vec Ideal S4096x1 .f32) (f : Fin 4096 → EReal) (h : Holds T f)
include h
theorem pay18_eq : k0_pay18 (F := Ideal) T = spread f := by
  funext i
  refine Eq.trans ?_ (h (cell i))
  pointwise [k0_pay18]
  rfl
theorem pay19_eq : k0_pay19 (F := Ideal) T = spread f := by
  funext i
  refine Eq.trans ?_ (h (cell i))
  pointwise [k0_pay19]
  rfl
theorem pay20_eq : k0_pay20 (F := Ideal) T = spread f := by
  funext i
  refine Eq.trans ?_ (h (cell i))
  pointwise [k0_pay20]
  rfl
theorem pay21_eq : k0_pay21 (F := Ideal) T = spread f := by
  funext i
  refine Eq.trans ?_ (h (cell i))
  pointwise [k0_pay21]
  rfl
theorem pay22_eq : k0_pay22 (F := Ideal) T = spread f := by
  funext i
  refine Eq.trans ?_ (h (cell i))
  pointwise [k0_pay22]
  rfl
end Plain

/-- A natural number as a float, turned back into a word. -/
theorem fptosi_nat {n : ℕ} (h : n < 2 ^ 31) : (FloatOps.fptosi (F := Ideal) (φ := .f32) 32 (((n : ℕ) : ℝ) : EReal) : BitVec 32) = BitVec.ofNat 32 n := by
  show BitVec.ofInt 32 (Ideal.toIntClamped (-(2 ^ (32 - 1) : ℕ)) ((2 ^ (32 - 1) : ℕ) - 1) (((n : ℕ) : ℝ) : EReal)) = _
  rw [Ideal.toIntClamped_coe, if_pos (Nat.cast_nonneg n)]
  have e : ⌊((n : ℕ) : ℝ)⌋ = (n : ℤ) := Int.floor_natCast n
  rw [e, min_eq_right (by push_cast; omega), max_eq_right (by push_cast; omega)]
  exact BitVec.ofInt_natCast 32 n

/-- The class of a candidate, from its flat position as a float. -/
theorem class_eq (T : Vec Ideal S4096x1 .f32) (q : Fin 4096 → ℕ) (hq : ∀ r, q r < 2 ^ 31) (h : Holds T fun r => ((q r : ℝ) : EReal)) :
    k0_pay24 (F := Ideal) 80#32 (k0_pay23 T) = spread fun r => (((q r % 80 : ℕ) : ℝ) : EReal) := by
  funext i
  have e := h (cell i)
  have e' : T (ix2 (⟨(i 0).val * 128 + (i 1).val, (cell i).isLt⟩ : Fin 4096) 0) = ((q (cell i) : ℝ) : EReal) := e
  pointwise [k0_pay24, k0_pay23]
  rw [e', fptosi_nat (hq _)]
  have e80 : Scalar.select (Scalar.cmpi .eq 80#32 0#32) 1#32 80#32 = BitVec.ofNat 32 80 := by decide
  rw [e80, Routing.remsi_word .vector (hq _) (by norm_num) (by norm_num)]
  have lt : q (cell i) % 80 < 80 := Nat.mod_lt _ (by norm_num)
  have ei : (BitVec.ofNat 32 (q (cell i) % 80)).toInt = ((q (cell i) % 80 : ℕ) : ℤ) := by
    rw [BitVec.toInt_eq_toNat_of_lt] <;> rw [BitVec.toNat_ofNat] <;> omega
  have e0 : IntOp.cmpi .slt (BitVec.ofNat 32 (q (cell i) % 80)) 0#32 = 0#1 := by
    show BitVec.ofBool ((BitVec.ofNat 32 (q (cell i) % 80)).slt 0#32) = _
    unfold BitVec.slt
    rw [ei, decide_eq_false (by rw [BitVec.toInt_zero]; omega)]
    rfl
  rw [e0]
  have e1 : ∀ b : BitVec 1, IntOp.andi (IntOp.xori 0#1 (Scalar.cmpi .slt 80#32 0#32)) b = 0#1 := by decide
  rw [e1]
  show (((BitVec.ofNat 32 (q (cell i) % 80)).toInt : ℝ) : EReal) = _
  rw [ei]
  rfl

section Moved
variable (d : Cand) (v26 : IVec S32x128 32) (v40 : Vec Ideal S625x128 .f32)
  (hc : k0_pay24 (F := Ideal) 80#32 v26 = spread fun r => (((d.c r : ℕ) : ℝ) : EReal))
  (hs : Finset.fold max (Ideal.ofBits FTy.f32 4286578688#32) (fun x : Fin 625 × Fin 128 => v40 (ix2 x.1 x.2)) Finset.univ
    - Finset.fold min (Ideal.ofBits FTy.f32 2139095040#32) (fun x : Fin 625 × Fin 128 => v40 (ix2 x.1 x.2)) Finset.univ + 1 = d.span)
include hc hs

theorem pay26_eq : k0_pay26 (F := Ideal) (spread (d.b 0)) 80#32 v26 v40 = spread (d.off 0) := by
  funext i
  have e := congrFun hc i
  pointwise [k0_pay26, k0_pay25]
  rw [hs, e]; rfl
theorem pay27_eq : k0_pay27 (F := Ideal) (spread (d.b 1)) 80#32 v26 v40 = spread (d.off 1) := by
  funext i
  have e := congrFun hc i
  pointwise [k0_pay27, k0_pay25]
  rw [hs, e]; rfl
theorem pay28_eq : k0_pay28 (F := Ideal) (spread (d.b 2)) 80#32 v26 v40 = spread (d.off 2) := by
  funext i
  have e := congrFun hc i
  pointwise [k0_pay28, k0_pay25]
  rw [hs, e]; rfl
theorem pay29_eq : k0_pay29 (F := Ideal) (spread (d.b 3)) 80#32 v26 v40 = spread (d.off 3) := by
  funext i
  have e := congrFun hc i
  pointwise [k0_pay29, k0_pay25]
  rw [hs, e]; rfl
theorem pay30_eq : k0_pay30 (F := Ideal) (spread (d.b 0)) (spread (d.b 1)) (spread (d.b 2)) (spread (d.b 3)) 80#32 v26 v40 = spread d.area := by
  unfold k0_pay30
  rw [pay26_eq d v26 v40 hc hs, pay27_eq d v26 v40 hc hs, pay28_eq d v26 v40 hc hs, pay29_eq d v26 v40 hc hs]
  rfl
end Moved
end Cert.Nms
end
-- ==== Proof.Sort.lean ====
/- The rank loop and the permutation loop: each row's rank, and the table in rank order. -/
module

public import proofs.«01_k».proof.Proof.Trips
public import proofs.«01_k».proof.Proof.Lays
public import proofs.«01_k».proof.Proof.Order
public import proofs.«01_k».proof.Proof.Table
public import Idealize.ShloMosaic.Lib.IndicatorCount
public import Idealize.ShloMosaic.Lib.WholeRead
public import Idealize.ShloMosaic.Lib.Pipeline.ValueKit.Tiles

@[expose] public section

set_option maxRecDepth 16384

noncomputable section

namespace Cert.Nms

open Cert.KernelIdeal Cert.KernelIdeal.Gen
open Idealize.ShloMosaic Idealize.ShloMosaic.TcCoe

theorem off1_eq : ∀ k : Fin k0_t1_loop.trips, k0_off1 k = ![k.val * 128, 0] := by decide +kernel
theorem off2_eq : ∀ k : Fin k0_t1_loop.trips, k0_off2 k = ![k.val * 128, 1] := by decide +kernel
theorem off3_eq : ∀ k : Fin k0_t1_loop.trips, k0_off3 k = ![k.val * 128, 0] := by decide +kernel
theorem off4_eq : ∀ k : Fin k0_t2_loop.trips, k0_off4 k = ![k.val * 128, 0] := by decide +kernel

theorem at1 (k : Fin k0_t1_loop.trips) : k0_off1 k 0 = k.val * 128 ∧ k0_off1 k 1 = 0 := ⟨congrFun (off1_eq k) 0, congrFun (off1_eq k) 1⟩
theorem at2 (k : Fin k0_t1_loop.trips) : k0_off2 k 0 = k.val * 128 ∧ k0_off2 k 1 = 1 := ⟨congrFun (off2_eq k) 0, congrFun (off2_eq k) 1⟩
theorem at3 (k : Fin k0_t1_loop.trips) : k0_off3 k 0 = k.val * 128 ∧ k0_off3 k 1 = 0 := ⟨congrFun (off3_eq k) 0, congrFun (off3_eq k) 1⟩
theorem at4 (k : Fin k0_t2_loop.trips) : k0_off4 k 0 = k.val * 128 ∧ k0_off4 k 1 = 0 := ⟨congrFun (off4_eq k) 0, congrFun (off4_eq k) 1⟩

/-- One block of rank counts. -/
theorem pay16_rank (f : Fin 4096 → EReal) (g : Fin 4096 → ℕ) (v0 v2 : Vec Ideal S1x4096 .f32) (v75 v78 : Vec Ideal S128x1 .f32)
    (h0 : ∀ j, v0 (ix2 0 j) = f j) (h2 : ∀ j, v2 (ix2 0 j) = (((g j : ℕ) : ℝ) : EReal)) (x : S128x1.Idx) (j : Fin 4096)
    (ha : v75 x = f j) (hb : v78 x = (((g j : ℕ) : ℝ) : EReal)) :
    k0_pay16 v0 v2 v75 v78 x = BitVec.ofNat 32 (rank f g j) := by
  obtain ⟨r, rfl⟩ : ∃ r : Fin 128, x = ix2 r 0 := ⟨x 0, by
    rw [eq_ix2 x]
    congr 1
    exact Fin.ext (by have : (x 1).val < 1 := (x 1).isLt; show (x 1).val = 0; omega)⟩
  pointwise [k0_pay16]
  rw [IndicatorCount.fold_addi_setWidth_eq_card]
  refine congrArg _ (rank_eq f g j _ fun i => ?_)
  have e : ∀ a b c : Bool, (IntOp.ori (BitVec.ofBool a) (IntOp.andi (BitVec.ofBool b) (BitVec.ofBool c)) = 1#1) ↔ (a = true ∨ (b = true ∧ c = true)) := by decide
  rw [e]
  refine (or_congr decide_eq_true_iff (and_congr decide_eq_true_iff decide_eq_true_iff)).trans ?_
  show (v75 (ix2 r 0) < v0 (ix2 0 i) ∨ (v0 (ix2 0 i) = v75 (ix2 r 0) ∧ v2 (ix2 0 i) < v78 (ix2 r 0))) ↔ _
  rw [h0, h2, ha, hb, EReal.coe_lt_coe_iff, Nat.cast_lt]
  rfl

/-- One block of the table in rank order. -/
theorem pay17_sorted (σ : Fin 4096 ≃ Fin 4096) (v5 : Vec Ideal S4096x8 .f32) (v7 : Vec Ideal S4096x1 .i32)
    (h7 : ∀ i, v7 (ix2 i 0) = BitVec.ofNat 32 (σ i).val) (k : Fin k0_t2_loop.trips) (r : Fin 128) (l : Fin 8) (q : Fin 4096) (hq : q.val = k.val * 128 + r.val) :
    k0_pay17 v5 v7 k (ix2 r l) = v5 (ix2 (σ.symm q) l) := by
  have hw : IntOp.addi (Scalar.muli (Scf.iv 0#32 1#32 k.val) 128#32) (BitVec.ofNat 32 r.val) = BitVec.ofNat 32 q.val := by
    rw [hq, BitVec.ofNat_add, BitVec.ofNat_mul]
    show (0#32 + BitVec.ofNat 32 k.val * 1#32) * 128#32 + BitVec.ofNat 32 r.val = BitVec.ofNat 32 k.val * 128#32 + BitVec.ofNat 32 r.val
    rw [BitVec.zero_add, BitVec.mul_one]
  pointwise [k0_pay17]
  rw [hw]
  have hb : ∀ x, (FloatOps.sitofp (F := Ideal) FTy.f32 (BitVec.setWidth 32 (IntOp.cmpi CmpIPredicate.eq (v7 (ix2 x 0)) (BitVec.ofNat 32 q.val)))) = bit (decide (σ x = q)) := by
    intro x
    rw [h7]
    have e : IntOp.cmpi .eq (BitVec.ofNat 32 (σ x).val) (BitVec.ofNat 32 q.val) = BitVec.ofBool (decide (σ x = q)) := by
      show BitVec.ofBool (decide _) = _
      congr 1
      refine decide_eq_decide.2 ⟨fun h => ?_, fun h => by rw [h]⟩
      have h2 := congrArg BitVec.toNat h
      rw [BitVec.toNat_ofNat, BitVec.toNat_ofNat] at h2
      have h3 := (σ x).isLt
      have h4 := q.isLt
      exact Fin.ext (by omega)
    rw [e]
    exact sitofp_bit _
  rw [Finset.sum_eq_single (σ.symm q)]
  · rw [hb, Equiv.apply_symm_apply, decide_eq_true rfl]
    exact one_mul _
  · intro x _ hx
    rw [hb, decide_eq_false fun h => hx (by rw [← h, Equiv.symm_apply_apply])]
    exact zero_mul _
  · intro h; exact absurd (Finset.mem_univ _) h

/-- The ranks as the kernel keeps them. -/
def rankArr (f : Fin 4096 → EReal) (g : Fin 4096 → ℕ) : Vec Ideal S4096x1 .i32 := fun y => BitVec.ofNat 32 (rank f g (y 0))

/-- A table with its rows permuted. -/
def permArr (σ : Fin 4096 ≃ Fin 4096) (v5 : Vec Ideal S4096x8 .f32) : Vec Ideal S4096x8 .f32 := fun y => v5 (ix2 (σ.symm (y 0)) (y 1))

/-- One piece of the rank loop: the rank of each of its rows. -/
theorem rank_piece (arg0 : Memref sig .tc .vmem S4096x8 .f32) (harg0 : arg0.IsWhole) (f : Fin 4096 → EReal) (g : Fin 4096 → ℕ) (x0 : Vec Ideal S4096x8 .f32) (v0 v2 : Vec Ideal S1x4096 .f32)
    (h0 : ∀ j, v0 (ix2 0 j) = f j) (h2 : ∀ j, v2 (ix2 0 j) = (((g j : ℕ) : ℝ) : EReal))
    (ha : ∀ j, x0 (ix2 j 0) = f j) (hb : ∀ j, x0 (ix2 j 1) = (((g j : ℕ) : ℝ) : EReal)) (k : Fin k0_t1_loop.trips)
    (x : (Rect.unit (s := S4096x1) (k0_off3 k) S128x1.size (k0_off3_inb k)).shape.Idx) :
    k0_pay16 v0 v2 (arg0.view.readAt (Elt Ideal) (Rect.unit (s := S4096x8) (k0_off1 k) S128x1.size (k0_off1_inb k)).toLoadRect (harg0.unread x0))
      (arg0.view.readAt (Elt Ideal) (Rect.unit (s := S4096x8) (k0_off2 k) S128x1.size (k0_off2_inb k)).toLoadRect (harg0.unread x0)) x
      = rankArr f g ((Rect.unit (s := S4096x1) (k0_off3 k) S128x1.size (k0_off3_inb k)).emb x) := by
  unfold rankArr
  have e3 : (((Rect.unit (s := S4096x1) (k0_off3 k) S128x1.size (k0_off3_inb k)).emb x 0).val) = k.val * 128 + (x 0).val := by
    rw [Rect.emb_apply]
    show k0_off3 k 0 + 1 * (x 0).val = _
    have := (at3 k).1
    omega
  generalize ((Rect.unit (s := S4096x1) (k0_off3 k) S128x1.size (k0_off3_inb k)).emb x 0) = j at e3
  have hx : (x 1).val = 0 := by have : (x 1).val < 1 := (x 1).isLt; omega
  apply pay16_rank f g v0 v2 _ _ h0 h2 x j
  · rw [harg0.readAt_unread]
    refine Eq.trans (congrArg x0 ?_) (ha j)
    funext a
    match a with
    | ⟨0, _⟩ => exact Fin.ext (by show k0_off1 k 0 + 1 * (x 0).val = j.val; have := (at1 k).1; omega)
    | ⟨1, _⟩ => exact Fin.ext (by show k0_off1 k 1 + 1 * (x 1).val = 0; have := (at1 k).2; omega)
  · rw [harg0.readAt_unread]
    refine Eq.trans (congrArg x0 ?_) (hb j)
    funext a
    match a with
    | ⟨0, _⟩ => exact Fin.ext (by show k0_off2 k 0 + 1 * (x 0).val = j.val; have := (at2 k).1; omega)
    | ⟨1, _⟩ => exact Fin.ext (by show k0_off2 k 1 + 1 * (x 1).val = 1; have := (at2 k).2; omega)

/-- One entry of a permuted block. -/
theorem perm_entry (σ : Fin 4096 ≃ Fin 4096) (v5 : Vec Ideal S4096x8 .f32) (v7 : Vec Ideal S4096x1 .i32)
    (h7 : ∀ i, v7 (ix2 i 0) = BitVec.ofNat 32 (σ i).val) (k : Fin k0_t2_loop.trips) (x : S128x8.Idx) (y : S4096x8.Idx)
    (e0 : (y 0).val = k.val * 128 + (x 0).val) (e1 : y 1 = x 1) : k0_pay17 v5 v7 k x = permArr σ v5 y := by
  unfold permArr
  rw [e1]
  refine Eq.trans (congrArg _ (eq_ix2 x)) ?_
  exact pay17_sorted σ v5 v7 h7 k (x 0) (x 1) _ e0

section Run
variable (𝒱 : Variants) (c : Dev nD) (bd : Option 𝒱.V) (arg0 : Memref sig .tc .vmem S4096x8 .f32) (harg0 : arg0.IsWhole) (arg1 : Memref sig .tc .vmem S1x4096 .f32) (harg1 : arg1.IsWhole) (arg2 : Memref sig .tc .vmem S1x4096 .f32) (harg2 : arg2.IsWhole) (arg3 : Memref sig .tc .vmem S625x128 .f32) (harg3 : arg3.IsWhole) (arg4 : Memref sig .tc .smem S300x4 .f32) (harg4 : arg4.IsWhole) (arg5 : Memref sig .tc .smem S300 .f32) (harg5 : arg5.IsWhole) (arg6 : Memref sig .tc .smem S300 .i32) (harg6 : arg6.IsWhole) (arg7 : Memref sig .tc .smem S1 .i32) (harg7 : arg7.IsWhole) (arg8 : Memref sig .tc .vmem S4096x1 .i32) (harg8 : arg8.IsWhole) (arg9 : Memref sig .tc .vmem S4096x8 .f32) (harg9 : arg9.IsWhole)

/-- The rank loop lays down the ranks. -/
theorem ranks_laid (f : Fin 4096 → EReal) (g : Fin 4096 → ℕ) (x0 : Vec Ideal S4096x8 .f32) (v0 v2 : Vec Ideal S1x4096 .f32)
    (h0 : ∀ j, v0 (ix2 0 j) = f j) (h2 : ∀ j, v2 (ix2 0 j) = (((g j : ℕ) : ℝ) : EReal))
    (ha : ∀ j, x0 (ix2 j 0) = f j) (hb : ∀ j, x0 (ix2 j 1) = (((g j : ℕ) : ℝ) : EReal)) (n : ℕ) (hn : n ≤ k0_t1_loop.trips) :
    Lays (s := S4096x1) (e := .i32) 0 (n * 128) (pb_k0_t1 (F := Ideal) 𝒱 c bd arg0 harg0 arg1 harg1 arg2 harg2 arg3 harg3 arg4 harg4 arg5 harg5 arg6 harg6 arg7 harg7 arg8 harg8 arg9 harg9 v0 v2 (harg0.unread x0) n) (rankArr f g) := by
  induction n with
  | zero => exact Lays.nil _ _
  | succ n ih =>
    have e := pb_k0_t1_succ (F := Ideal) 𝒱 c bd arg0 harg0 arg1 harg1 arg2 harg2 arg3 harg3 arg4 harg4 arg5 harg5 arg6 harg6 arg7 harg7 arg8 harg8 arg9 harg9 v0 v2 (harg0.unread x0) ⟨n, hn⟩
    rw [e]
    show Lays (s := S4096x1) (e := .i32) 0 ((n + 1) * 128) ((trip_k0_t1 (F := Ideal) 𝒱 c bd arg0 harg0 arg1 harg1 arg2 harg2 arg3 harg3 arg4 harg4 arg5 harg5 arg6 harg6 arg7 harg7 arg8 harg8 arg9 harg9 v0 v2 (harg0.unread x0) ⟨n, hn⟩).1 ++ pb_k0_t1 (F := Ideal) 𝒱 c bd arg0 harg0 arg1 harg1 arg2 harg2 arg3 harg3 arg4 harg4 arg5 harg5 arg6 harg6 arg7 harg7 arg8 harg8 arg9 harg9 v0 v2 (harg0.unread x0) n) _
    rw [trip1]
    refine Lays.append _ (n * 128) _ _ _ _ (ih (by omega)) ?_ ?_
    · intro p hp x
      obtain rfl := List.mem_singleton.1 hp
      have z := rank_piece arg0 harg0 f g x0 v0 v2 h0 h2 ha hb ⟨n, hn⟩
      have z2 := z x
      refine Eq.trans ?_ z2
      dsimp only
    · intro y h0 h1
      refine ⟨_, List.mem_singleton.2 rfl, ?_⟩
      rw [Rect.mem_set_unit]
      intro a
      rw [off3_eq]
      match a with
      | ⟨0, _⟩ => exact ⟨h0, by show (y 0).val < n * 128 + 128; omega⟩
      | ⟨1, _⟩ => exact ⟨Nat.zero_le _, by have : (y 1).val < 1 := (y 1).isLt; show (y 1).val < 0 + 1; omega⟩

/-- The permutation loop lays down the table in rank order. -/
theorem sorted_laid (σ : Fin 4096 ≃ Fin 4096) (v5 : Vec Ideal S4096x8 .f32) (v7 : Vec Ideal S4096x1 .i32)
    (h7 : ∀ i, v7 (ix2 i 0) = BitVec.ofNat 32 (σ i).val) (n : ℕ) (hn : n ≤ k0_t2_loop.trips) :
    Lays (s := S4096x8) (e := .f32) 0 (n * 128) (pb_k0_t2 (F := Ideal) 𝒱 c bd arg0 harg0 arg1 harg1 arg2 harg2 arg3 harg3 arg4 harg4 arg5 harg5 arg6 harg6 arg7 harg7 arg8 harg8 arg9 harg9 v5 v7 n) (permArr σ v5) := by
  induction n with
  | zero => exact Lays.nil _ _
  | succ n ih =>
    have e := pb_k0_t2_succ (F := Ideal) 𝒱 c bd arg0 harg0 arg1 harg1 arg2 harg2 arg3 harg3 arg4 harg4 arg5 harg5 arg6 harg6 arg7 harg7 arg8 harg8 arg9 harg9 v5 v7 ⟨n, hn⟩
    rw [e]
    show Lays (s := S4096x8) (e := .f32) 0 ((n + 1) * 128) ((trip_k0_t2 (F := Ideal) 𝒱 c bd arg0 harg0 arg1 harg1 arg2 harg2 arg3 harg3 arg4 harg4 arg5 harg5 arg6 harg6 arg7 harg7 arg8 harg8 arg9 harg9 v5 v7 ⟨n, hn⟩).1 ++ pb_k0_t2 (F := Ideal) 𝒱 c bd arg0 harg0 arg1 harg1 arg2 harg2 arg3 harg3 arg4 harg4 arg5 harg5 arg6 harg6 arg7 harg7 arg8 harg8 arg9 harg9 v5 v7 n) _
    rw [trip2]
    refine Lays.append _ (n * 128) _ _ _ _ (ih (by omega)) ?_ ?_
    · intro p hp x
      obtain rfl := List.mem_singleton.1 hp
      have e0 : (((Rect.unit (s := S4096x8) (k0_off4 ⟨n, hn⟩) S128x8.size (k0_off4_inb ⟨n, hn⟩)).emb x 0).val) = n * 128 + (x 0).val := by
        rw [Rect.emb_apply]
        show k0_off4 ⟨n, hn⟩ 0 + 1 * (x 0).val = _
        have := (at4 ⟨n, hn⟩).1
        dsimp only at this
        omega
      have e1 : (Rect.unit (s := S4096x8) (k0_off4 ⟨n, hn⟩) S128x8.size (k0_off4_inb ⟨n, hn⟩)).emb x 1 = x 1 := by
        refine Fin.ext ?_
        rw [Rect.emb_apply]
        show k0_off4 ⟨n, hn⟩ 1 + 1 * (x 1).val = _
        have := (at4 ⟨n, hn⟩).2
        omega
      exact perm_entry σ v5 v7 h7 ⟨n, hn⟩ x _ e0 e1
    · intro y h0 h1
      refine ⟨_, List.mem_singleton.2 rfl, ?_⟩
      rw [Rect.mem_set_unit]
      intro a
      rw [off4_eq]
      match a with
      | ⟨0, _⟩ => exact ⟨h0, by show (y 0).val < n * 128 + 128; omega⟩
      | ⟨1, _⟩ => exact ⟨Nat.zero_le _, by have : (y 1).val < 8 := (y 1).isLt; show (y 1).val < 0 + 8; omega⟩

end Run
end Cert.Nms
end
-- ==== Proof.Search.lean ====
/- A fold by the smaller of two words, or by the larger of two floats, finds its least word, its greatest float. -/
module

public import Idealize.ShloMosaic.PureOps.Reduce
public import Idealize.ShloMosaic.PureOps.Ideal

@[expose] public section

namespace Cert.Nms

open Idealize.ShloMosaic

theorem minsi_le {a b m : BitVec 32} (ha : m.toInt ≤ a.toInt) (hb : m.toInt ≤ b.toInt) : m.toInt ≤ (IntOp.minsi a b).toInt := by
  unfold IntOp.minsi
  split <;> assumption

theorem minsi_left {b m : BitVec 32} (hb : m.toInt ≤ b.toInt) : IntOp.minsi m b = m := by
  unfold IntOp.minsi
  by_cases h : m.slt b = true
  · simp [h]
  · have : ¬ m.toInt < b.toInt := by simpa [BitVec.slt] using h
    have e : m.toInt = b.toInt := by omega
    have e' := BitVec.eq_of_toInt_eq e
    subst e'
    simp

theorem minsi_right {b m : BitVec 32} (hb : m.toInt ≤ b.toInt) : IntOp.minsi b m = m := by
  unfold IntOp.minsi
  by_cases h : b.slt m = true
  · have : b.toInt < m.toInt := by simpa [BitVec.slt] using h
    omega
  · simp [h]

/-- The fold by the smaller is the word `m` once `m` is below every word and is one of them. -/
theorem foldl_minsi {ι : Type} (m : BitVec 32) (g : ι → BitVec 32) :
    ∀ (l : List ι) (init : BitVec 32), m.toInt ≤ init.toInt → (∀ a ∈ l, m.toInt ≤ (g a).toInt) →
      (init = m ∨ ∃ a ∈ l, g a = m) → l.foldl (fun r a => IntOp.minsi r (g a)) init = m
  | [], init, _, _, h => by
    rcases h with h | ⟨a, ha, _⟩
    · exact h
    · exact absurd ha (List.not_mem_nil)
  | a :: l, init, hi, hl, h => by
    rw [List.foldl_cons]
    have ha := hl a List.mem_cons_self
    refine foldl_minsi m g l _ (minsi_le hi ha) (fun b hb => hl b (List.mem_cons_of_mem _ hb)) ?_
    rcases h with h | ⟨b, hb, hbm⟩
    · left; rw [h]; exact minsi_left ha
    · rcases List.mem_cons.1 hb with hb | hb
      · left; rw [← hb, hbm]; exact minsi_right hi
      · right; exact ⟨b, hb, hbm⟩

/-- The fold by the larger is `m` once `m` is above every number and is one of them. -/
theorem foldl_max {ι : Type} (m : EReal) (g : ι → EReal) :
    ∀ (l : List ι) (init : EReal), init ≤ m → (∀ a ∈ l, g a ≤ m) →
      (init = m ∨ ∃ a ∈ l, g a = m) → l.foldl (fun r a => max r (g a)) init = m
  | [], init, _, _, h => by
    rcases h with h | ⟨a, ha, _⟩
    · exact h
    · exact absurd ha (List.not_mem_nil)
  | a :: l, init, hi, hl, h => by
    rw [List.foldl_cons]
    have ha := hl a List.mem_cons_self
    refine foldl_max m g l _ (max_le hi ha) (fun b hb => hl b (List.mem_cons_of_mem _ hb)) ?_
    rcases h with h | ⟨b, hb, hbm⟩
    · left; rw [h]; exact max_eq_left ha
    · rcases List.mem_cons.1 hb with hb | hb
      · left; rw [← hb, hbm]; exact max_eq_right hi
      · right; exact ⟨b, hb, hbm⟩

end Cert.Nms
-- ==== Proof.Trip.lean ====
/- One trip of the suppression loop on arrays laid out by candidate number: the first candidate standing, the one-hot
   sums that read its columns, and who stands afterwards. -/
module

public import proofs.«01_k».proof.Proof.Spread
public import proofs.«01_k».proof.Proof.Search

@[expose] public section

noncomputable section

namespace Cert.Nms

open Cert.KernelIdeal Cert.KernelIdeal.Gen
open Idealize.ShloMosaic Idealize.ShloMosaic.ValueIdx

theorem toInt_small {n : ℕ} (h : n ≤ 4096) : (BitVec.ofNat 32 n).toInt = n := by
  rw [BitVec.toInt_eq_toNat_of_lt] <;> rw [BitVec.toNat_ofNat] <;> norm_num <;> omega

/-- What the kernel keeps of who stands. -/
def flags (v : Fin 4096 → Bool) : FVec Ideal S32x128 .f32 := spread fun r => bit (v r)

theorem cmp_flag (b : Bool) : FloatOps.cmpf (F := Ideal) .ogt (bit b : Ideal .f32) (Scalar.ofBits .f32 0x00000000#32) = BitVec.ofBool b := by
  show Ideal.cmp .ogt (bit b) (Ideal.ofBits .f32 0x00000000#32) = _
  rw [Ideal.ofBits_zero_f32]
  unfold Ideal.cmp bit
  cases b <;> simp

theorem select_ofBool {α : Type} (b : Bool) (x y : α) : Scalar.select (BitVec.ofBool b) x y = if b then x else y := by
  cases b <;> rfl

theorem subsingleton1 (k j : S1.Idx) : k = j := funext fun a => by
  obtain rfl : a = 0 := Subsingleton.elim _ _
  have h1 : (k 0).val < 1 := (k 0).isLt
  have h2 : (j 0).val < 1 := (j 0).isLt
  exact Fin.ext (by omega)

/-- The least-index search finds the first candidate standing. -/
theorem pay1_first (v : Fin 4096 → Bool) :
    extractAt ![0, 0, 0] (k0_pay1 (F := Ideal) k0_pay31 4096#32 (flags v)) inpos_S1x1x1_p0_0_0 = BitVec.ofNat 32 (first v) := by
  let x : IVec S32x128 32 := fun i => if v (cell i) then BitVec.ofNat 32 (cell i).val else 4096#32
  have hx : (select (cmpf (F := Ideal) .ogt (flags v) (broadcast S32x128 (Scalar.ofBits .f32 0x00000000#32))) k0_pay31 (broadcast S32x128 4096#32)) = x := by
    funext i
    show Scalar.select (FloatOps.cmpf (F := Ideal) .ogt (bit (v (cell i))) (Scalar.ofBits .f32 0x00000000#32)) (k0_pay31 i) 4096#32 = _
    rw [cmp_flag, select_ofBool, pay31_apply]
  have key : ∀ j : S1.Idx, multiReductionI .minsi [1, 2] S1 (shapeCast S1x32x128 x shapeCasts_S32x128_S1x32x128) 2147483647#32
      reduces_S1x32x128_S1 rfl j = BitVec.ofNat 32 (first v) := by
    intro j
    show reduceFold reduces_S1x32x128_S1 IntOp.minsi 2147483647#32 (shapeCast S1x32x128 x shapeCasts_S32x128_S1x32x128) j = _
    unfold reduceFold
    have le4 : first v ≤ 4096 := by
      rcases first_cases v with ⟨_, h⟩ | ⟨p, _, _, h⟩
      · exact h.le
      · rw [h]; exact p.isLt.le
    have ge : ∀ i, (BitVec.ofNat 32 (first v)).toInt ≤ (x i).toInt := by
      intro i
      show _ ≤ (if v (cell i) then BitVec.ofNat 32 (cell i).val else 4096#32).toInt
      rw [toInt_small le4]
      by_cases h : v (cell i) = true
      · rw [if_pos h, toInt_small (cell i).isLt.le]
        rcases first_cases v with ⟨h0, _⟩ | ⟨p, _, hm, hp⟩
        · rw [h0] at h; exact absurd h Bool.false_ne_true
        · rw [hp]; exact_mod_cast hm _ h
      · rw [if_neg h, show (4096#32 : BitVec 32) = BitVec.ofNat 32 4096 from rfl, toInt_small le_rfl]
        exact_mod_cast le4
    apply foldl_minsi
    · rw [toInt_small le4]
      show (first v : ℤ) ≤ 2147483647
      omega
    · intro a _
      exact ge _
    · right
      have mem : ∀ i : S32x128.Idx, x i = BitVec.ofNat 32 (first v) →
          ∃ a ∈ (List.finRange S1x32x128.numel).filter (fun n => reduces_S1x32x128_S1.drop (S1x32x128.rowMajor.symm n) = j),
            shapeCast S1x32x128 x shapeCasts_S32x128_S1x32x128 (S1x32x128.rowMajor.symm a) = BitVec.ofNat 32 (first v) := by
        intro i hi
        refine ⟨S1x32x128.rowMajor ((Shape.reshapeEquiv shapeCasts_S32x128_S1x32x128).symm i), ?_, ?_⟩
        · rw [List.mem_filter]
          exact ⟨List.mem_finRange _, decide_eq_true (subsingleton1 _ _)⟩
        · rw [Equiv.symm_apply_apply]
          show x (Shape.reshapeEquiv shapeCasts_S32x128_S1x32x128 _) = _
          rw [Equiv.apply_symm_apply]
          exact hi
      rcases first_cases v with ⟨h0, h⟩ | ⟨p, hv, _, h⟩
      · apply mem (home 0)
        show (if v (cell (home 0)) then BitVec.ofNat 32 (cell (home 0)).val else 4096#32) = _
        rw [h0, h]; rfl
      · apply mem (home p)
        show (if v (cell (home p)) then BitVec.ofNat 32 (cell (home p)).val else 4096#32) = _
        rw [cell_home, hv, h]; rfl
  have e : k0_pay1 (F := Ideal) k0_pay31 4096#32 (flags v) = shapeCast S1x1x1 (multiReductionI .minsi [1, 2] S1
      (shapeCast S1x32x128 (select (cmpf (F := Ideal) .ogt (flags v) (broadcast S32x128 (Scalar.ofBits .f32 0x00000000#32))) k0_pay31 (broadcast S32x128 4096#32))
        shapeCasts_S32x128_S1x32x128) 2147483647#32 reduces_S1x32x128_S1 rfl) shapeCasts_S1_S1x1x1 := rfl
  rw [e, hx]
  exact key _

theorem first_le (v : Fin 4096 → Bool) : first v ≤ 4096 := by
  rcases first_cases v with ⟨_, h⟩ | ⟨p, _, _, h⟩
  · exact h.le
  · rw [h]; exact p.isLt.le

theorem keep_word (v : Fin 4096 → Bool) : Scalar.cmpi .slt (BitVec.ofNat 32 (first v)) 4096#32 = BitVec.ofBool (decide (first v < 4096)) := by
  show BitVec.ofBool ((BitVec.ofNat 32 (first v)).slt 4096#32) = _
  congr 1
  have e : (BitVec.ofNat 32 (first v)).toInt = first v := toInt_small (first_le v)
  have e2 : (4096#32 : BitVec 32).toInt = 4096 := by decide
  unfold BitVec.slt
  rw [e, e2]
  exact decide_eq_decide.2 (by omega)

theorem pay2_eq (v : Fin 4096 → Bool) : k0_pay2 (F := Ideal) k0_pay31 4096#32 (flags v) = bit (decide (first v < 4096)) := by
  unfold k0_pay2
  rw [pay1_first]
  refine Eq.trans ?_ (sitofp_bit _)
  show Scalar.sitofp .f32 (Scalar.extui (Scalar.cmpi .slt (BitVec.ofNat 32 (first v)) 4096#32)) = _
  rw [keep_word]

/-- The one-hot array. -/
def hot (v : Fin 4096 → Bool) : FVec Ideal S32x128 .f32 := spread fun r => bit (decide (r.val = first v))

theorem pay3_eq (v : Fin 4096 → Bool) : k0_pay3 (F := Ideal) k0_pay31 4096#32 (flags v) = hot v := by
  funext i
  unfold k0_pay3
  rw [pay1_first]
  show FloatOps.sitofp (F := Ideal) .f32 ((IntOp.cmpi .eq (k0_pay31 i) (BitVec.ofNat 32 (first v))).setWidth 32) = bit (decide ((cell i).val = first v))
  rw [pay31_apply]
  have e : IntOp.cmpi .eq (BitVec.ofNat 32 (cell i).val) (BitVec.ofNat 32 (first v)) = BitVec.ofBool (decide ((cell i).val = first v)) := by
    show BitVec.ofBool (decide _) = _
    congr 1
    refine decide_eq_decide.2 ⟨fun h => ?_, fun h => by rw [h]⟩
    have h2 := congrArg BitVec.toNat h
    rw [BitVec.toNat_ofNat, BitVec.toNat_ofNat] at h2
    have h3 := first_le v
    have h4 := (cell i).isLt
    norm_num at h2
    omega
  rw [e]
  exact sitofp_bit _

/-- A one-hot sum reads a column at the first candidate standing. -/
theorem sum_hot (v : Fin 4096 → Bool) (f : Fin 4096 → EReal) : ∑ r, bit (decide (r.val = first v)) * f r = pick v f := by
  rcases first_cases v with ⟨_, h⟩ | ⟨p, _, _, h⟩
  · rw [pick_none v h]
    apply Finset.sum_eq_zero
    intro r _
    have hr : ¬ r.val = first v := by have := r.isLt; omega
    rw [decide_eq_false hr]
    exact zero_mul _
  · rw [pick_some v p h, Finset.sum_eq_single p]
    · rw [decide_eq_true h.symm]
      exact one_mul _
    · intro r _ hr
      have hr : ¬ r.val = first v := fun e => hr (Fin.eq_of_val_eq (e.trans h))
      rw [decide_eq_false hr]
      exact zero_mul _
    · intro h; exact absurd (Finset.mem_univ _) h

theorem pick_all (v : Fin 4096 → Bool) (f : Fin 4096 → EReal) :
    extractAt ![0, 0, 0] (shapeCast S1x1x1 (multiReduction .add [1, 2] S1 (shapeCast S1x32x128 (mulf (hot v) (spread f)) shapeCasts_S32x128_S1x32x128)
      0x00000000#32 reduces_S1x32x128_S1 (.inl rfl) rfl) shapeCasts_S1_S1x1x1) inpos_S1x1x1_p0_0_0 = pick v f := by
  exact (sum_all (fun r => bit (decide (r.val = first v)) * f r) _ (fun i => rfl)).trans (sum_hot v f)

section Columns
variable (v : Fin 4096 → Bool) (f : Fin 4096 → EReal)

theorem pay4_eq : k0_pay4 (F := Ideal) (spread f) k0_pay31 4096#32 (flags v) = pick v f := by
  unfold k0_pay4; dsimp only; rw [pay3_eq]; exact pick_all v f
theorem pay5_eq : k0_pay5 (F := Ideal) (spread f) k0_pay31 4096#32 (flags v) = pick v f := by
  unfold k0_pay5; dsimp only; rw [pay3_eq]; exact pick_all v f
theorem pay6_eq : k0_pay6 (F := Ideal) (spread f) k0_pay31 4096#32 (flags v) = pick v f := by
  unfold k0_pay6; dsimp only; rw [pay3_eq]; exact pick_all v f
theorem pay7_eq : k0_pay7 (F := Ideal) (spread f) k0_pay31 4096#32 (flags v) = pick v f := by
  unfold k0_pay7; dsimp only; rw [pay3_eq]; exact pick_all v f
theorem pay8_eq : k0_pay8 (F := Ideal) (spread f) k0_pay31 4096#32 (flags v) = pick v f := by
  unfold k0_pay8; dsimp only; rw [pay3_eq]; exact pick_all v f
theorem pay9_eq : k0_pay9 (F := Ideal) (spread f) k0_pay31 4096#32 (flags v) = pick v f := by
  unfold k0_pay9; dsimp only; rw [pay3_eq]; exact pick_all v f
theorem pay10_eq : k0_pay10 (F := Ideal) (spread f) k0_pay31 4096#32 (flags v) = pick v f := by
  unfold k0_pay10; dsimp only; rw [pay3_eq]; exact pick_all v f
theorem pay11_eq : k0_pay11 (F := Ideal) (spread f) (hot v) = pick v f := by
  unfold k0_pay11; exact pick_all v f
theorem pay12_eq : k0_pay12 (F := Ideal) (spread f) (hot v) = pick v f := by
  unfold k0_pay12; exact pick_all v f
theorem pay15_eq (x : EReal) : k0_pay15 (F := Ideal) (spread f) x (hot v) = pick v f * x := by
  unfold k0_pay15; exact congrArg (· * x) (pick_all v f)

/-- A read column times the keep flag is the column read. -/
theorem pick_keep : pick v f * bit (decide (first v < 4096)) = pick v f := by
  rcases first_cases v with ⟨_, h⟩ | ⟨p, _, _, h⟩
  · rw [pick_none v h, zero_mul]
  · have : first v < 4096 := h ▸ p.isLt
    rw [decide_eq_true this]
    exact mul_one _
end Columns

/-- Who stands after the trip. -/
theorem pay13_eq (d : Cand) (v : Fin 4096 → Bool) :
    k0_pay13 (F := Ideal) (spread (d.off 0)) (spread (d.off 1)) (spread (d.off 2)) (spread (d.off 3)) (spread d.area) (flags v)
      (pick v (d.off 0)) (pick v (d.off 1)) (pick v (d.off 2)) (pick v (d.off 3)) = flags (d.next v) := by
  funext i
  unfold k0_pay13
  show Scalar.select (BitVec.ofBool (decide (Ideal.div
      (max (Ideal.ofBits .f32 0x00000000#32) (min (pick v (d.off 2)) (d.off 2 (cell i)) - max (pick v (d.off 0)) (d.off 0 (cell i)))
        * max (Ideal.ofBits .f32 0x00000000#32) (min (pick v (d.off 3)) (d.off 3 (cell i)) - max (pick v (d.off 1)) (d.off 1 (cell i))))
      ((pick v (d.off 2) - pick v (d.off 0)) * (pick v (d.off 3) - pick v (d.off 1)) + d.area (cell i)
        - (max (Ideal.ofBits .f32 0x00000000#32) (min (pick v (d.off 2)) (d.off 2 (cell i)) - max (pick v (d.off 0)) (d.off 0 (cell i)))
          * max (Ideal.ofBits .f32 0x00000000#32) (min (pick v (d.off 3)) (d.off 3 (cell i)) - max (pick v (d.off 1)) (d.off 1 (cell i))))
        + Ideal.ofBits .f32 0x3089705F#32) ≤ Ideal.ofBits .f32 0x3F266666#32))) (bit (v (cell i))) (Ideal.ofBits .f32 0x00000000#32)
    = bit (d.next v (cell i))
  rw [Ideal.ofBits_zero_f32, select_ofBool, max_comm (0 : EReal), max_comm (0 : EReal)]
  unfold Cand.next Cand.iou Cand.inter bit
  by_cases h1 : v (cell i) = true
  · simp only [h1, Bool.true_and, if_true]
  · simp only [Bool.eq_false_iff.2 h1, Bool.false_and, ite_self, Bool.false_eq_true, if_false]

end Cert.Nms
end
-- ==== Proof.Loop.lean ====
/- The suppression loop, trip by trip: what it carries is who stands and how many were found, and its stores lay down
   one box, one score and one class per trip. -/
module

public import proofs.«01_k».proof.Proof.Trips
public import proofs.«01_k».proof.Proof.Trip
public import proofs.«01_k».proof.Proof.Lays
public import proofs.«01_k».proof.Proof.Table

@[expose] public section

set_option maxRecDepth 16384

noncomputable section

namespace Cert.Nms

open Cert.KernelIdeal Cert.KernelIdeal.Gen
open Idealize.ShloMosaic Idealize.ShloMosaic.TcCoe

theorem off5_eq : ∀ k : Fin k0_t3_loop.trips, k0_off5 k = ![k.val, 0] := by decide +kernel
theorem off6_eq : ∀ k : Fin k0_t3_loop.trips, k0_off6 k = ![k.val, 1] := by decide +kernel
theorem off7_eq : ∀ k : Fin k0_t3_loop.trips, k0_off7 k = ![k.val, 2] := by decide +kernel
theorem off8_eq : ∀ k : Fin k0_t3_loop.trips, k0_off8 k = ![k.val, 3] := by decide +kernel
theorem off9_eq : ∀ k : Fin k0_t3_loop.trips, k0_off9 k = ![k.val] := by decide +kernel

/-- Where a one-cell piece of the box table lies. -/
theorem emb_box (off : Fin 2 → ℕ) (inb : ∀ a, off a + S1x1.size a ≤ S300x4.size a) (r q : ℕ) (h : off = ![r, q]) (x : (Rect.unit (s := S300x4) off S1x1.size inb).shape.Idx) :
    ((Rect.unit (s := S300x4) off S1x1.size inb).emb x 0).val = r ∧ ((Rect.unit (s := S300x4) off S1x1.size inb).emb x 1).val = q := by
  subst h
  have h0 : (x 0).val < 1 := (x 0).isLt
  have h1 : (x 1).val < 1 := (x 1).isLt
  refine ⟨?_, ?_⟩
  · show r + 1 * (x 0).val = r; omega
  · show q + 1 * (x 1).val = q; omega

theorem mem_box (off : Fin 2 → ℕ) (inb : ∀ a, off a + S1x1.size a ≤ S300x4.size a) (r q : ℕ) (h : off = ![r, q]) (y : S300x4.Idx)
    (h0 : (y 0).val = r) (h1 : (y 1).val = q) : y ∈ (Rect.unit (s := S300x4) off S1x1.size inb).set := by
  subst h
  rw [Rect.mem_set_unit]
  intro a
  match a with
  | ⟨0, _⟩ => exact ⟨h0.ge, by show (y 0).val < r + 1; omega⟩
  | ⟨1, _⟩ => exact ⟨h1.ge, by show (y 1).val < q + 1; omega⟩

/-- Where a one-cell piece of a list of 300 lies. -/
theorem emb_row (off : Fin 1 → ℕ) (inb : ∀ a, off a + S1.size a ≤ S300.size a) (r : ℕ) (h : off = ![r]) (x : (Rect.unit (s := S300) off S1.size inb).shape.Idx) :
    ((Rect.unit (s := S300) off S1.size inb).emb x 0).val = r := by
  subst h
  have h0 : (x 0).val < 1 := (x 0).isLt
  show r + 1 * (x 0).val = r; omega

theorem mem_row (off : Fin 1 → ℕ) (inb : ∀ a, off a + S1.size a ≤ S300.size a) (r : ℕ) (h : off = ![r]) (y : S300.Idx)
    (h0 : (y 0).val = r) : y ∈ (Rect.unit (s := S300) off S1.size inb).set := by
  subst h
  rw [Rect.mem_set_unit]
  intro a
  match a with
  | ⟨0, _⟩ => exact ⟨h0.ge, by show (y 0).val < r + 1; omega⟩

/-- The start: who has a positive score. -/
theorem pay32_eq (d : Cand) : k0_pay32 (F := Ideal) (spread d.s) = flags (d.valid 0) := by
  funext i
  unfold k0_pay32
  show (Scalar.sitofp .f32 (Scalar.extui (BitVec.ofBool (decide (Ideal.ofBits .f32 0x00000000#32 < d.s (cell i)))) : BitVec 32) : Ideal .f32) = bit (decide (0 < d.s (cell i)))
  rw [Ideal.ofBits_zero_f32]
  exact sitofp_bit _

theorem hit_eq (v : Fin 4096 → Bool) : hit (F := Ideal) (flags v) = BitVec.ofBool (decide (first v < 4096)) := by
  unfold hit
  rw [pay1_first]
  exact keep_word v

/-- The class stored when somebody stands. -/
theorem class_word (d : Cand) (hcl : ∀ r, d.c r < 80) (v : Fin 4096 → Bool) :
    Scalar.select (BitVec.ofBool (decide (first v < 4096))) (Scalar.fptosi (F := Ideal) (φ := .f32) 32 (pick v fun r => (((d.c r : ℕ) : ℝ) : EReal))) 4294967295#32
      = if h : first v < 4096 then BitVec.ofNat 32 (d.c ⟨_, h⟩) else 4294967295#32 := by
  rw [select_ofBool]
  by_cases h : first v < 4096
  · rw [if_pos (decide_eq_true h), dif_pos h]
    unfold pick
    rw [dif_pos h]
    exact fptosi_nat (lt_of_lt_of_le (hcl _) (by norm_num))
  · rw [if_neg (by simpa using h), dif_neg h]

/-- A one-cell piece of the box table that holds what the table should hold there. -/
theorem box_piece (d : Cand) (n q : ℕ) (hq : q < 4) (off : Fin 2 → ℕ) (inb : ∀ a, off a + S1x1.size a ≤ S300x4.size a) (h : off = ![n, q]) (w : EReal)
    (hw : w = d.outBox n ⟨q, hq⟩) (x : (Rect.unit (s := S300x4) off S1x1.size inb).shape.Idx) :
    w = d.outBox ((Rect.unit (s := S300x4) off S1x1.size inb).emb x 0).val ((Rect.unit (s := S300x4) off S1x1.size inb).emb x 1) := by
  obtain ⟨h0, h1⟩ := emb_box off inb n q h x
  rw [hw, h0]
  exact congrArg (d.outBox n) (Fin.ext h1.symm)

theorem store3 (d : Cand) (n : ℕ) : k0_pay34 (F := Ideal) (bit (decide (first (d.valid n) < 4096))) (pick (d.valid n) (d.b 3)) = d.outBox n 3 := pick_keep _ _
theorem store2 (d : Cand) (n : ℕ) : k0_pay33 (F := Ideal) (bit (decide (first (d.valid n) < 4096))) (pick (d.valid n) (d.b 2)) = d.outBox n 2 := pick_keep _ _
theorem store1 (d : Cand) (n : ℕ) : k0_pay15 (F := Ideal) (spread (d.b 1)) (bit (decide (first (d.valid n) < 4096))) (hot (d.valid n)) = d.outBox n 1 :=
  (pay15_eq _ _ _).trans (pick_keep _ _)
theorem store0 (d : Cand) (n : ℕ) : k0_pay14 (F := Ideal) (bit (decide (first (d.valid n) < 4096))) (pick (d.valid n) (d.b 0)) = d.outBox n 0 := pick_keep _ _

section Run
variable (𝒱 : Variants) (c : Dev nD) (bd : Option 𝒱.V) (arg0 : Memref sig .tc .vmem S4096x8 .f32) (harg0 : arg0.IsWhole) (arg1 : Memref sig .tc .vmem S1x4096 .f32) (harg1 : arg1.IsWhole) (arg2 : Memref sig .tc .vmem S1x4096 .f32) (harg2 : arg2.IsWhole) (arg3 : Memref sig .tc .vmem S625x128 .f32) (harg3 : arg3.IsWhole) (arg4 : Memref sig .tc .smem S300x4 .f32) (harg4 : arg4.IsWhole) (arg5 : Memref sig .tc .smem S300 .f32) (harg5 : arg5.IsWhole) (arg6 : Memref sig .tc .smem S300 .i32) (harg6 : arg6.IsWhole) (arg7 : Memref sig .tc .smem S1 .i32) (harg7 : arg7.IsWhole) (arg8 : Memref sig .tc .vmem S4096x1 .i32) (harg8 : arg8.IsWhole) (arg9 : Memref sig .tc .vmem S4096x8 .f32) (harg9 : arg9.IsWhole)
variable (d : Cand) (hcl : ∀ r, d.c r < 80) (v26 : IVec S32x128 32) (v40 : Vec Ideal S625x128 .f32)
  (hc : k0_pay24 (F := Ideal) 80#32 v26 = spread fun r => (((d.c r : ℕ) : ℝ) : EReal))
  (hs : Finset.fold max (Ideal.ofBits FTy.f32 4286578688#32) (fun x : Fin 625 × Fin 128 => v40 (ix2 x.1 x.2)) Finset.univ
    - Finset.fold min (Ideal.ofBits FTy.f32 2139095040#32) (fun x : Fin 625 × Fin 128 => v40 (ix2 x.1 x.2)) Finset.univ + 1 = d.span)

include hc hs in
/-- What the loop carries before trip `n`. -/
theorem carry_eq (n : ℕ) (hn : n ≤ k0_t3_loop.trips) :
    (st_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) n).1 = (flags (d.valid n), BitVec.ofNat 32 (d.count n)) := by
  induction n with
  | zero =>
    rw [st_k0_t3_zero, pay32_eq]
    rfl
  | succ n ih =>
    have h := ih (by omega)
    have e := st_k0_t3_succ (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) ⟨n, hn⟩
    rw [e]
    show (trip_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 ⟨n, hn⟩).1 (st_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) n).1 = _
    rw [h, trip3]
    simp only [pay26_eq d v26 v40 hc hs, pay27_eq d v26 v40 hc hs, pay28_eq d v26 v40 hc hs, pay29_eq d v26 v40 hc hs, pay30_eq d v26 v40 hc hs,
      pay6_eq, pay7_eq, pay8_eq, pay9_eq, pay13_eq, hit_eq]
    rw [Cand.count_succ]
    refine Prod.ext rfl ?_
    show BitVec.ofNat 32 (d.count n) + (BitVec.ofBool (d.found n)).setWidth 32 = _
    cases d.found n
    · show BitVec.ofNat 32 (d.count n) + 0#32 = _
      simp
    · show BitVec.ofNat 32 (d.count n) + BitVec.ofNat 32 1 = _
      rw [← BitVec.ofNat_add]; rfl

include hc hs in
/-- The boxes laid down before trip `n`. -/
theorem boxes_laid (n : ℕ) (hn : n ≤ k0_t3_loop.trips) :
    Lays (s := S300x4) (e := .f32) 0 n (st_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) n).2.1 fun y => d.outBox (y 0).val (y 1) := by
  induction n with
  | zero => exact Lays.nil _ _
  | succ n ih =>
    have h := carry_eq 𝒱 c bd arg0 harg0 arg1 harg1 arg2 harg2 arg3 harg3 arg4 harg4 arg5 harg5 arg6 harg6 arg7 harg7 arg8 harg8 arg9 harg9 d v26 v40 hc hs n (by omega)
    have e := st_k0_t3_succ (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) ⟨n, hn⟩
    rw [e]
    show Lays (s := S300x4) (e := .f32) 0 (n + 1) ((trip_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 ⟨n, hn⟩).2.1 (st_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) n).1 ++ (st_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) n).2.1) _
    rw [h, trip3_box]
    simp only [pay2_eq, pay3_eq, pay10_eq, pay11_eq, pay12_eq]
    refine Lays.append _ n _ _ _ _ (ih (by omega)) ?_ ?_
    · intro p hp x
      rcases List.mem_cons.1 hp with rfl | hp
      rotate_left
      rcases List.mem_cons.1 hp with rfl | hp
      rotate_left
      rcases List.mem_cons.1 hp with rfl | hp
      rotate_left
      obtain rfl := List.mem_singleton.1 hp
      · exact box_piece d n 0 (by norm_num) _ (k0_off5_inb ⟨n, hn⟩) (off5_eq ⟨n, hn⟩) _ (store0 d n) x
      · exact box_piece d n 3 (by norm_num) _ (k0_off8_inb ⟨n, hn⟩) (off8_eq ⟨n, hn⟩) _ (store3 d n) x
      · exact box_piece d n 2 (by norm_num) _ (k0_off7_inb ⟨n, hn⟩) (off7_eq ⟨n, hn⟩) _ (store2 d n) x
      · exact box_piece d n 1 (by norm_num) _ (k0_off6_inb ⟨n, hn⟩) (off6_eq ⟨n, hn⟩) _ (store1 d n) x
    · intro y h0 h1
      have h0 : (y 0).val = n := by omega
      have h2 : (y 1).val < 4 := (y 1).isLt
      have h3 : (y 1).val = 0 ∨ (y 1).val = 1 ∨ (y 1).val = 2 ∨ (y 1).val = 3 := by omega
      rcases h3 with h3 | h3 | h3 | h3
      · exact ⟨_, List.mem_cons_of_mem _ (List.mem_cons_of_mem _ (List.mem_cons_of_mem _ List.mem_cons_self)), mem_box _ (k0_off5_inb ⟨n, hn⟩) n 0 (off5_eq ⟨n, hn⟩) y h0 h3⟩
      · exact ⟨_, List.mem_cons_of_mem _ (List.mem_cons_of_mem _ List.mem_cons_self), mem_box _ (k0_off6_inb ⟨n, hn⟩) n 1 (off6_eq ⟨n, hn⟩) y h0 h3⟩
      · exact ⟨_, List.mem_cons_of_mem _ List.mem_cons_self, mem_box _ (k0_off7_inb ⟨n, hn⟩) n 2 (off7_eq ⟨n, hn⟩) y h0 h3⟩
      · exact ⟨_, List.mem_cons_self, mem_box _ (k0_off8_inb ⟨n, hn⟩) n 3 (off8_eq ⟨n, hn⟩) y h0 h3⟩

include hc hs in
/-- The scores laid down before trip `n`. -/
theorem scores_laid (n : ℕ) (hn : n ≤ k0_t3_loop.trips) :
    Lays (s := S300) (e := .f32) 0 n (st_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) n).2.2.1 fun y => d.outScore (y 0).val := by
  induction n with
  | zero => exact Lays.nil _ _
  | succ n ih =>
    have h := carry_eq 𝒱 c bd arg0 harg0 arg1 harg1 arg2 harg2 arg3 harg3 arg4 harg4 arg5 harg5 arg6 harg6 arg7 harg7 arg8 harg8 arg9 harg9 d v26 v40 hc hs n (by omega)
    have e := st_k0_t3_succ (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) ⟨n, hn⟩
    rw [e]
    show Lays (s := S300) (e := .f32) 0 (n + 1) ((trip_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 ⟨n, hn⟩).2.2.1 (st_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) n).1 ++ (st_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) n).2.2.1) _
    rw [h, trip3_score]
    simp only [pay2_eq, pay4_eq]
    refine Lays.append _ n _ _ _ _ (ih (by omega)) ?_ ?_
    · intro p hp x
      obtain rfl := List.mem_singleton.1 hp
      have h0 := emb_row _ (k0_off9_inb ⟨n, hn⟩) n (off9_eq ⟨n, hn⟩) x
      show pick (d.valid n) d.s * bit (decide (first (d.valid n) < 4096)) = pick (d.valid _) d.s
      rw [pick_keep, h0]
    · intro y h0 h1
      exact ⟨_, List.mem_singleton.2 rfl, mem_row _ (k0_off9_inb ⟨n, hn⟩) n (off9_eq ⟨n, hn⟩) y (by omega)⟩

include hc hs hcl in
/-- The classes laid down before trip `n`. -/
theorem classes_laid (n : ℕ) (hn : n ≤ k0_t3_loop.trips) :
    Lays (s := S300) (e := .i32) 0 n (st_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) n).2.2.2 fun y => d.outClass (y 0).val := by
  induction n with
  | zero => exact Lays.nil _ _
  | succ n ih =>
    have h := carry_eq 𝒱 c bd arg0 harg0 arg1 harg1 arg2 harg2 arg3 harg3 arg4 harg4 arg5 harg5 arg6 harg6 arg7 harg7 arg8 harg8 arg9 harg9 d v26 v40 hc hs n (by omega)
    have e := st_k0_t3_succ (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) ⟨n, hn⟩
    rw [e]
    show Lays (s := S300) (e := .i32) 0 (n + 1) ((trip_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 ⟨n, hn⟩).2.2.2.1 (st_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) n).1 ++ (st_k0_t3 (F := Ideal) 𝒱 c bd arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32 v26 v40 (k0_pay32 (spread d.s), 0#32) n).2.2.2) _
    rw [h, trip3_class]
    simp only [hit_eq]
    rw [hc]
    simp only [pay5_eq]
    refine Lays.append _ n _ _ _ _ (ih (by omega)) ?_ ?_
    · intro p hp x
      obtain rfl := List.mem_singleton.1 hp
      have h0 := emb_row _ (k0_off9_inb ⟨n, hn⟩) n (off9_eq ⟨n, hn⟩) x
      show _ = d.outClass _
      rw [h0]
      exact class_word d hcl _
    · intro y h0 h1
      exact ⟨_, List.mem_singleton.2 rfl, mem_row _ (k0_off9_inb ⟨n, hn⟩) n (off9_eq ⟨n, hn⟩) y (by omega)⟩

end Run
end Cert.Nms
end
-- ==== Proof.Body.lean ====
/- The kernel's whole body: from the table, the two rows and the box coordinates it is given to its four results. -/
module

public import proofs.«01_k».proof.Proof.Sort
public import proofs.«01_k».proof.Proof.Loop
public import proofs.«01_k».proof.Proof.Gen.KernelIdeal.Frame

@[expose] public section

set_option maxRecDepth 16384

noncomputable section

namespace Cert.Nms

open Cert.KernelIdeal Cert.KernelIdeal.Gen
open Idealize.ShloMosaic Idealize.ShloMosaic.TcCoe

/-- The table column of a box corner. -/
def corner (k : Fin 4) : Fin 8 := ⟨k.val + 2, Nat.lt_of_lt_of_le (Nat.add_lt_add_right k.isLt 2) (by decide)⟩

/-- A whole-array load reads every entry in place. -/
theorem whole_idx (h w : ℕ) (inb : ∀ a, (![0, 0] : Fin 2 → ℕ) a + (⟨2, ![h, w]⟩ : Shape).size a ≤ (⟨2, ![h, w]⟩ : Shape).size a)
    (x : (⟨2, ![h, w]⟩ : Shape).Idx) : (Rect.unit (s := ⟨2, ![h, w]⟩) ![0, 0] (⟨2, ![h, w]⟩ : Shape).size inb).idx x = x := by
  funext a
  match a with
  | ⟨0, _⟩ => exact Fin.ext (by show 0 + 1 * (x 0).val = (x 0).val; omega)
  | ⟨1, _⟩ => exact Fin.ext (by show 0 + 1 * (x 1).val = (x 1).val; omega)

section Run
variable (c : Dev nD) (arg0 : Memref sig .tc .vmem S4096x8 .f32) (harg0 : arg0.IsWhole) (arg1 : Memref sig .tc .vmem S1x4096 .f32) (harg1 : arg1.IsWhole) (arg2 : Memref sig .tc .vmem S1x4096 .f32) (harg2 : arg2.IsWhole) (arg3 : Memref sig .tc .vmem S625x128 .f32) (harg3 : arg3.IsWhole) (arg4 : Memref sig .tc .smem S300x4 .f32) (harg4 : arg4.IsWhole) (arg5 : Memref sig .tc .smem S300 .f32) (harg5 : arg5.IsWhole) (arg6 : Memref sig .tc .smem S300 .i32) (harg6 : arg6.IsWhole) (arg7 : Memref sig .tc .smem S1 .i32) (harg7 : arg7.IsWhole) (arg8 : Memref sig .tc .vmem S4096x1 .i32) (harg8 : arg8.IsWhole) (arg9 : Memref sig .tc .vmem S4096x8 .f32) (harg9 : arg9.IsWhole)
variable (x0 : Vec Ideal S4096x8 .f32) (x1 x2 : Vec Ideal S1x4096 .f32) (x3 : Vec Ideal S625x128 .f32)

/-- The ranks the rank loop leaves. -/
def ranks : Vec Ideal S4096x1 .i32 :=
  arg8.view.readCov (pb_k0_t1 (F := Ideal) Variants.none c none arg0 harg0 arg1 harg1 arg2 harg2 arg3 harg3 arg4 harg4 arg5 harg5 arg6 harg6 arg7 harg7 arg8 harg8 arg9 harg9
    (arg1.view.readAt (Elt Ideal) (Rect.unit (s := S1x4096) ![0, 0] S1x4096.size inb_S1x4096_S1x4096_0_0).toLoadRect (harg1.unread x1))
    (arg2.view.readAt (Elt Ideal) (Rect.unit (s := S1x4096) ![0, 0] S1x4096.size inb_S1x4096_S1x4096_0_0).toLoadRect (harg2.unread x2))
    (harg0.unread x0) (Scf.trips k0_t1_loop.lb k0_t1_loop.ub k0_t1_loop.st)) (Rect.unit (s := S4096x1) ![0, 0] S4096x1.size inb_S4096x1_S4096x1_0_0).toLoadRect

/-- The pieces the permutation loop leaves. -/
def sorted : List (View.Piece (Elt Ideal) S4096x8 .f32) :=
  pb_k0_t2 (F := Ideal) Variants.none c none arg0 harg0 arg1 harg1 arg2 harg2 arg3 harg3 arg4 harg4 arg5 harg5 arg6 harg6 arg7 harg7 arg8 harg8 arg9 harg9
    (arg0.view.readAt (Elt Ideal) (Rect.unit (s := S4096x8) ![0, 0] S4096x8.size inb_S4096x8_S4096x8_0_0).toLoadRect (harg0.unread x0))
    (ranks c arg0 harg0 arg1 harg1 arg2 harg2 arg3 harg3 arg4 harg4 arg5 harg5 arg6 harg6 arg7 harg7 arg8 harg8 arg9 harg9 x0 x1 x2) (Scf.trips k0_t2_loop.lb k0_t2_loop.ub k0_t2_loop.st)

/-- A column of the sorted table. -/
def col (k : Fin 8) (inb : ∀ a, (![0, k.val] : Fin 2 → ℕ) a + S4096x1.size a ≤ S4096x8.size a) : Vec Ideal S4096x1 .f32 :=
  arg9.view.readCov (sorted c arg0 harg0 arg1 harg1 arg2 harg2 arg3 harg3 arg4 harg4 arg5 harg5 arg6 harg6 arg7 harg7 arg8 harg8 arg9 harg9 x0 x1 x2) (Rect.unit (s := S4096x8) ![0, k.val] S4096x1.size inb).toLoadRect

/-- The box coordinates as loaded. -/
def coords : Vec Ideal S625x128 .f32 :=
  arg3.view.readAt (Elt Ideal) (Rect.unit (s := S625x128) ![0, 0] S625x128.size inb_S625x128_S625x128_0_0).toLoadRect (harg3.unread x3)

/-- The box pieces of a run are the loop's. -/
theorem run_boxes : (kernelRun0_A (F := Ideal) c arg0 harg0 arg1 harg1 arg2 harg2 arg3 harg3 arg4 harg4 arg5 harg5 arg6 harg6 arg7 harg7 arg8 harg8 arg9 harg9 x0 x1 x2 x3).1 = (st_k0_t3 (F := Ideal) Variants.none c none arg0 harg0 arg1 harg1 arg2 harg2 arg3 harg3 arg4 harg4 arg5 harg5 arg6 harg6 arg7 harg7 arg8 harg8 arg9 harg9
        (k0_pay18 (col c arg0 harg0 arg1 harg1 arg2 harg2 arg3 harg3 arg4 harg4 arg5 harg5 arg6 harg6 arg7 harg7 arg8 harg8 arg9 harg9 x0 x1 x2 0 inb_S4096x8_S4096x1_0_0)) (k0_pay19 (col c arg0 harg0 arg1 harg1 arg2 harg2 arg3 harg3 arg4 harg4 arg5 harg5 arg6 harg6 arg7 harg7 arg8 harg8 arg9 harg9 x0 x1 x2 2 inb_S4096x8_S4096x1_0_2))
        (k0_pay20 (col c arg0 harg0 arg1 harg1 arg2 harg2 arg3 harg3 arg4 harg4 arg5 harg5 arg6 harg6 arg7 harg7 arg8 harg8 arg9 harg9 x0 x1 x2 3 inb_S4096x8_S4096x1_0_3)) (k0_pay21 (col c arg0 harg0 arg1 harg1 arg2 harg2 arg3 harg3 arg4 harg4 arg5 harg5 arg6 harg6 arg7 harg7 arg8 harg8 arg9 harg9 x0 x1 x2 4 inb_S4096x8_S4096x1_0_4))
        (k0_pay22 (col c arg0 harg0 arg1 harg1 arg2 harg2 arg3 harg3 arg4 harg4 arg5 harg5 arg6 harg6 arg7 harg7 arg8 harg8 arg9 harg9 x0 x1 x2 5 inb_S4096x8_S4096x1_0_5)) 80#32 (k0_pay23 (col c arg0 harg0 arg1 harg1 arg2 harg2 arg3 harg3 arg4 harg4 arg5 harg5 arg6 harg6 arg7 harg7 arg8 harg8 arg9 harg9 x0 x1 x2 1 inb_S4096x8_S4096x1_0_1))
        (coords arg3 harg3 x3) (k0_pay32 (k0_pay18 (col c arg0 harg0 arg1 harg1 arg2 harg2 arg3 harg3 arg4 harg4 arg5 harg5 arg6 harg6 arg7 harg7 arg8 harg8 arg9 harg9 x0 x1 x2 0 inb_S4096x8_S4096x1_0_0)), 0#32) (Scf.trips k0_t3_loop.lb k0_t3_loop.ub k0_t3_loop.st)).2.1 := by
  unfold kernelRun0_A
  rfl
/-- The score pieces likewise. -/
theorem run_scores : (kernelRun0_A (F := Ideal) c arg0 harg0 arg1 harg1 arg2 harg2 arg3 harg3 arg4 harg4 arg5 harg5 arg6 harg6 arg7 harg7 arg8 harg8 arg9 harg9 x0 x1 x2 x3).2.1 = (st_k0_t3 (F := Ideal) Variants.none c none arg0 harg0 arg1 harg1 arg2 harg2 arg3 harg3 arg4 harg4 arg5 harg5 arg6 harg6 arg7 harg7 arg8 harg8 arg9 harg9
        (k0_pay18 (col c arg0 harg0 arg1 harg1 arg2 harg2 arg3 harg3 arg4 harg4 arg5 harg5 arg6 harg6 arg7 harg7 arg8 harg8 arg9 harg9 x0 x1 x2 0 inb_S4096x8_S4096x1_0_0)) (k0_pay19 (col c arg0 harg0 arg1 harg1 arg2 harg2 arg3 harg3 arg4 harg4 arg5 harg5 arg6 harg6 arg7 harg7 arg8 harg8 arg9 harg9 x0 x1 x2 2 inb_S4096x8_S4096x1_0_2))
        (k0_pay20 (col c arg0 harg0 arg1 harg1 arg2 harg2 arg3 harg3 arg4 harg4 arg5 harg5 arg6 harg6 arg7 harg7 arg8 harg8 arg9 harg9 x0 x1 x2 3 inb_S4096x8_S4096x1_0_3)) (k0_pay21 (col c arg0 harg0 arg1 harg1 arg2 harg2 arg3 harg3 arg4 harg4 arg5 harg5 arg6 harg6 arg7 harg7 arg8 harg8 arg9 harg9 x0 x1 x2 4 inb_S4096x8_S4096x1_0_4))
        (k0_pay22 (col c arg0 harg0 arg1 harg1 arg2 harg2 arg3 harg3 arg4 harg4 arg5 harg5 arg6 harg6 arg7 harg7 arg8 harg8 arg9 harg9 x0 x1 x2 5 inb_S4096x8_S4096x1_0_5)) 80#32 (k0_pay23 (col c arg0 harg0 arg1 harg1 arg2 harg2 arg3 harg3 arg4 harg4 arg5 harg5 arg6 harg6 arg7 harg7 arg8 harg8 arg9 harg9 x0 x1 x2 1 inb_S4096x8_S4096x1_0_1))
        (coords arg3 harg3 x3) (k0_pay32 (k0_pay18 (col c arg0 harg0 arg1 harg1 arg2 harg2 arg3 harg3 arg4 harg4 arg5 harg5 arg6 harg6 arg7 harg7 arg8 harg8 arg9 harg9 x0 x1 x2 0 inb_S4096x8_S4096x1_0_0)), 0#32) (Scf.trips k0_t3_loop.lb k0_t3_loop.ub k0_t3_loop.st)).2.2.1 := by
  unfold kernelRun0_A
  rfl
/-- The class pieces likewise. -/
theorem run_classes : (kernelRun0_A (F := Ideal) c arg0 harg0 arg1 harg1 arg2 harg2 arg3 harg3 arg4 harg4 arg5 harg5 arg6 harg6 arg7 harg7 arg8 harg8 arg9 harg9 x0 x1 x2 x3).2.2.1 = (st_k0_t3 (F := Ideal) Variants.none c none arg0 harg0 arg1 harg1 arg2 harg2 arg3 harg3 arg4 harg4 arg5 harg5 arg6 harg6 arg7 harg7 arg8 harg8 arg9 harg9
        (k0_pay18 (col c arg0 harg0 arg1 harg1 arg2 harg2 arg3 harg3 arg4 harg4 arg5 harg5 arg6 harg6 arg7 harg7 arg8 harg8 arg9 harg9 x0 x1 x2 0 inb_S4096x8_S4096x1_0_0)) (k0_pay19 (col c arg0 harg0 arg1 harg1 arg2 harg2 arg3 harg3 arg4 harg4 arg5 harg5 arg6 harg6 arg7 harg7 arg8 harg8 arg9 harg9 x0 x1 x2 2 inb_S4096x8_S4096x1_0_2))
        (k0_pay20 (col c arg0 harg0 arg1 harg1 arg2 harg2 arg3 harg3 arg4 harg4 arg5 harg5 arg6 harg6 arg7 harg7 arg8 harg8 arg9 harg9 x0 x1 x2 3 inb_S4096x8_S4096x1_0_3)) (k0_pay21 (col c arg0 harg0 arg1 harg1 arg2 harg2 arg3 harg3 arg4 harg4 arg5 harg5 arg6 harg6 arg7 harg7 arg8 harg8 arg9 harg9 x0 x1 x2 4 inb_S4096x8_S4096x1_0_4))
        (k0_pay22 (col c arg0 harg0 arg1 harg1 arg2 harg2 arg3 harg3 arg4 harg4 arg5 harg5 arg6 harg6 arg7 harg7 arg8 harg8 arg9 harg9 x0 x1 x2 5 inb_S4096x8_S4096x1_0_5)) 80#32 (k0_pay23 (col c arg0 harg0 arg1 harg1 arg2 harg2 arg3 harg3 arg4 harg4 arg5 harg5 arg6 harg6 arg7 harg7 arg8 harg8 arg9 harg9 x0 x1 x2 1 inb_S4096x8_S4096x1_0_1))
        (coords arg3 harg3 x3) (k0_pay32 (k0_pay18 (col c arg0 harg0 arg1 harg1 arg2 harg2 arg3 harg3 arg4 harg4 arg5 harg5 arg6 harg6 arg7 harg7 arg8 harg8 arg9 harg9 x0 x1 x2 0 inb_S4096x8_S4096x1_0_0)), 0#32) (Scf.trips k0_t3_loop.lb k0_t3_loop.ub k0_t3_loop.st)).2.2.2 := by
  unfold kernelRun0_A
  rfl
/-- The count is the loop's last counter. -/
theorem run_count : (kernelRun0_A (F := Ideal) c arg0 harg0 arg1 harg1 arg2 harg2 arg3 harg3 arg4 harg4 arg5 harg5 arg6 harg6 arg7 harg7 arg8 harg8 arg9 harg9 x0 x1 x2 x3).2.2.2.1
    = [⟨Rect.unit (s := S1) ![0] S1.size inb_S1_S1_0, fun _ => (st_k0_t3 (F := Ideal) Variants.none c none arg0 harg0 arg1 harg1 arg2 harg2 arg3 harg3 arg4 harg4 arg5 harg5 arg6 harg6 arg7 harg7 arg8 harg8 arg9 harg9
        (k0_pay18 (col c arg0 harg0 arg1 harg1 arg2 harg2 arg3 harg3 arg4 harg4 arg5 harg5 arg6 harg6 arg7 harg7 arg8 harg8 arg9 harg9 x0 x1 x2 0 inb_S4096x8_S4096x1_0_0)) (k0_pay19 (col c arg0 harg0 arg1 harg1 arg2 harg2 arg3 harg3 arg4 harg4 arg5 harg5 arg6 harg6 arg7 harg7 arg8 harg8 arg9 harg9 x0 x1 x2 2 inb_S4096x8_S4096x1_0_2))
        (k0_pay20 (col c arg0 harg0 arg1 harg1 arg2 harg2 arg3 harg3 arg4 harg4 arg5 harg5 arg6 harg6 arg7 harg7 arg8 harg8 arg9 harg9 x0 x1 x2 3 inb_S4096x8_S4096x1_0_3)) (k0_pay21 (col c arg0 harg0 arg1 harg1 arg2 harg2 arg3 harg3 arg4 harg4 arg5 harg5 arg6 harg6 arg7 harg7 arg8 harg8 arg9 harg9 x0 x1 x2 4 inb_S4096x8_S4096x1_0_4))
        (k0_pay22 (col c arg0 harg0 arg1 harg1 arg2 harg2 arg3 harg3 arg4 harg4 arg5 harg5 arg6 harg6 arg7 harg7 arg8 harg8 arg9 harg9 x0 x1 x2 5 inb_S4096x8_S4096x1_0_5)) 80#32 (k0_pay23 (col c arg0 harg0 arg1 harg1 arg2 harg2 arg3 harg3 arg4 harg4 arg5 harg5 arg6 harg6 arg7 harg7 arg8 harg8 arg9 harg9 x0 x1 x2 1 inb_S4096x8_S4096x1_0_1))
        (coords arg3 harg3 x3) (k0_pay32 (k0_pay18 (col c arg0 harg0 arg1 harg1 arg2 harg2 arg3 harg3 arg4 harg4 arg5 harg5 arg6 harg6 arg7 harg7 arg8 harg8 arg9 harg9 x0 x1 x2 0 inb_S4096x8_S4096x1_0_0)), 0#32) (Scf.trips k0_t3_loop.lb k0_t3_loop.ub k0_t3_loop.st)).1.2⟩] := by
  unfold kernelRun0_A
  rfl

variable (f : Fin 4096 → EReal) (g : Fin 4096 → ℕ) (hg : Function.Injective g)
  (h1 : ∀ j, x1 (ix2 0 j) = f j) (h2 : ∀ j, x2 (ix2 0 j) = (((g j : ℕ) : ℝ) : EReal))
  (ha : ∀ j, x0 (ix2 j 0) = f j) (hb : ∀ j, x0 (ix2 j 1) = (((g j : ℕ) : ℝ) : EReal))
include h1 h2 ha hb

/-- The ranks loop leaves every row's rank. -/
theorem ranks_eq (i : Fin 4096) : ranks c arg0 harg0 arg1 harg1 arg2 harg2 arg3 harg3 arg4 harg4 arg5 harg5 arg6 harg6 arg7 harg7 arg8 harg8 arg9 harg9 x0 x1 x2 (ix2 i 0) = BitVec.ofNat 32 (rankE f g hg i).val := by
  unfold ranks
  have L := ranks_laid Variants.none c none arg0 harg0 arg1 harg1 arg2 harg2 arg3 harg3 arg4 harg4 arg5 harg5 arg6 harg6 arg7 harg7 arg8 harg8 arg9 harg9 f g x0
    (arg1.view.readAt (Elt Ideal) (Rect.unit (s := S1x4096) ![0, 0] S1x4096.size inb_S1x4096_S1x4096_0_0).toLoadRect (harg1.unread x1))
    (arg2.view.readAt (Elt Ideal) (Rect.unit (s := S1x4096) ![0, 0] S1x4096.size inb_S1x4096_S1x4096_0_0).toLoadRect (harg2.unread x2))
    (fun j => (harg1.readAt_unread _ _ _).trans ((congrArg x1 (whole_idx 1 4096 _ _)).trans (h1 j)))
    (fun j => (harg2.readAt_unread _ _ _).trans ((congrArg x2 (whole_idx 1 4096 _ _)).trans (h2 j)))
    ha hb (Scf.trips k0_t1_loop.lb k0_t1_loop.ub k0_t1_loop.st) le_rfl
  have t : (Scf.trips k0_t1_loop.lb k0_t1_loop.ub k0_t1_loop.st) = 32 := by decide +kernel
  have R := Lays.read _ _ _ _ L (by rw [t]; exact le_refl 4096)
  rw [View.readCov_eq_canon', R]
  refine (congrArg (rankArr f g) (whole_idx 4096 1 _ (ix2 i 0))).trans ?_
  rfl

/-- Column `k` of the sorted table. -/
theorem col_eq (k : Fin 8) (inb) : Holds (col c arg0 harg0 arg1 harg1 arg2 harg2 arg3 harg3 arg4 harg4 arg5 harg5 arg6 harg6 arg7 harg7 arg8 harg8 arg9 harg9 x0 x1 x2 k inb) fun r => x0 (ix2 ((rankE f g hg).symm r) k) := by
  intro r
  unfold col sorted
  have L := sorted_laid Variants.none c none arg0 harg0 arg1 harg1 arg2 harg2 arg3 harg3 arg4 harg4 arg5 harg5 arg6 harg6 arg7 harg7 arg8 harg8 arg9 harg9 (rankE f g hg)
    (arg0.view.readAt (Elt Ideal) (Rect.unit (s := S4096x8) ![0, 0] S4096x8.size inb_S4096x8_S4096x8_0_0).toLoadRect (harg0.unread x0))
    (ranks c arg0 harg0 arg1 harg1 arg2 harg2 arg3 harg3 arg4 harg4 arg5 harg5 arg6 harg6 arg7 harg7 arg8 harg8 arg9 harg9 x0 x1 x2) (ranks_eq c arg0 harg0 arg1 harg1 arg2 harg2 arg3 harg3 arg4 harg4 arg5 harg5 arg6 harg6 arg7 harg7 arg8 harg8 arg9 harg9 x0 x1 x2 f g hg h1 h2 ha hb) (Scf.trips k0_t2_loop.lb k0_t2_loop.ub k0_t2_loop.st) le_rfl
  have t : (Scf.trips k0_t2_loop.lb k0_t2_loop.ub k0_t2_loop.st) = 32 := by decide +kernel
  have R := Lays.read _ _ _ _ L (by rw [t]; exact le_refl 4096)
  rw [View.readCov_eq_canon', R]
  have e : ((Rect.unit (s := S4096x8) ![0, k.val] S4096x1.size inb).toLoadRect).idx (ix2 r 0) = ix2 r k := by
    funext a
    match a with
    | ⟨0, _⟩ => exact Fin.ext (by show 0 + 1 * r.val = r.val; omega)
    | ⟨1, _⟩ => exact Fin.ext (by show k.val + 1 * 0 = k.val; omega)
  refine (congrArg (permArr _ _) e).trans ?_
  refine (harg0.readAt_unread _ _ _).trans (congrArg x0 (whole_idx 4096 8 _ _))

omit h1 h2 ha hb in
/-- The box coordinates are loaded as they are. -/
theorem coords_eq : coords arg3 harg3 x3 = x3 :=
  funext fun x => (harg3.readAt_unread _ _ _).trans (congrArg x3 (whole_idx 625 128 _ x))

variable (d : Cand) (hds : ∀ r, d.s r = f ((rankE f g hg).symm r)) (hdb : ∀ (k : Fin 4) r, d.b k r = x0 (ix2 ((rankE f g hg).symm r) (corner k)))
  (hdc : ∀ r, d.c r = g ((rankE f g hg).symm r) % 80) (hlt : ∀ j, g j < 2 ^ 31)
  (hsp : Finset.fold max (Ideal.ofBits FTy.f32 4286578688#32) (fun x : Fin 625 × Fin 128 => x3 (ix2 x.1 x.2)) Finset.univ
    - Finset.fold min (Ideal.ofBits FTy.f32 2139095040#32) (fun x : Fin 625 × Fin 128 => x3 (ix2 x.1 x.2)) Finset.univ + 1 = d.span)
include hds hdb hdc hlt hsp

/-- The loop, with its columns read. -/
theorem loop_eq : st_k0_t3 (F := Ideal) Variants.none c none arg0 harg0 arg1 harg1 arg2 harg2 arg3 harg3 arg4 harg4 arg5 harg5 arg6 harg6 arg7 harg7 arg8 harg8 arg9 harg9
        (k0_pay18 (col c arg0 harg0 arg1 harg1 arg2 harg2 arg3 harg3 arg4 harg4 arg5 harg5 arg6 harg6 arg7 harg7 arg8 harg8 arg9 harg9 x0 x1 x2 0 inb_S4096x8_S4096x1_0_0)) (k0_pay19 (col c arg0 harg0 arg1 harg1 arg2 harg2 arg3 harg3 arg4 harg4 arg5 harg5 arg6 harg6 arg7 harg7 arg8 harg8 arg9 harg9 x0 x1 x2 2 inb_S4096x8_S4096x1_0_2))
        (k0_pay20 (col c arg0 harg0 arg1 harg1 arg2 harg2 arg3 harg3 arg4 harg4 arg5 harg5 arg6 harg6 arg7 harg7 arg8 harg8 arg9 harg9 x0 x1 x2 3 inb_S4096x8_S4096x1_0_3)) (k0_pay21 (col c arg0 harg0 arg1 harg1 arg2 harg2 arg3 harg3 arg4 harg4 arg5 harg5 arg6 harg6 arg7 harg7 arg8 harg8 arg9 harg9 x0 x1 x2 4 inb_S4096x8_S4096x1_0_4))
        (k0_pay22 (col c arg0 harg0 arg1 harg1 arg2 harg2 arg3 harg3 arg4 harg4 arg5 harg5 arg6 harg6 arg7 harg7 arg8 harg8 arg9 harg9 x0 x1 x2 5 inb_S4096x8_S4096x1_0_5)) 80#32 (k0_pay23 (col c arg0 harg0 arg1 harg1 arg2 harg2 arg3 harg3 arg4 harg4 arg5 harg5 arg6 harg6 arg7 harg7 arg8 harg8 arg9 harg9 x0 x1 x2 1 inb_S4096x8_S4096x1_0_1))
        (coords arg3 harg3 x3) (k0_pay32 (k0_pay18 (col c arg0 harg0 arg1 harg1 arg2 harg2 arg3 harg3 arg4 harg4 arg5 harg5 arg6 harg6 arg7 harg7 arg8 harg8 arg9 harg9 x0 x1 x2 0 inb_S4096x8_S4096x1_0_0)), 0#32) (Scf.trips k0_t3_loop.lb k0_t3_loop.ub k0_t3_loop.st) = st_k0_t3 (F := Ideal) Variants.none c none arg0 harg0 arg1 harg1 arg2 harg2 arg3 harg3 arg4 harg4 arg5 harg5 arg6 harg6 arg7 harg7 arg8 harg8 arg9 harg9 (spread d.s) (spread (d.b 0)) (spread (d.b 1)) (spread (d.b 2)) (spread (d.b 3)) 80#32
      (k0_pay23 (col c arg0 harg0 arg1 harg1 arg2 harg2 arg3 harg3 arg4 harg4 arg5 harg5 arg6 harg6 arg7 harg7 arg8 harg8 arg9 harg9 x0 x1 x2 1 inb_S4096x8_S4096x1_0_1)) x3 (k0_pay32 (spread d.s), 0#32) (Scf.trips k0_t3_loop.lb k0_t3_loop.ub k0_t3_loop.st) := by
  have C := fun k inb => col_eq c arg0 harg0 arg1 harg1 arg2 harg2 arg3 harg3 arg4 harg4 arg5 harg5 arg6 harg6 arg7 harg7 arg8 harg8 arg9 harg9 x0 x1 x2 f g hg h1 h2 ha hb k inb
  have e0 : k0_pay18 (col c arg0 harg0 arg1 harg1 arg2 harg2 arg3 harg3 arg4 harg4 arg5 harg5 arg6 harg6 arg7 harg7 arg8 harg8 arg9 harg9 x0 x1 x2 0 inb_S4096x8_S4096x1_0_0) = spread d.s := pay18_eq _ _ fun r => (C 0 _ r).trans ((ha _).trans (hds r).symm)
  have e1 : k0_pay19 (col c arg0 harg0 arg1 harg1 arg2 harg2 arg3 harg3 arg4 harg4 arg5 harg5 arg6 harg6 arg7 harg7 arg8 harg8 arg9 harg9 x0 x1 x2 2 inb_S4096x8_S4096x1_0_2) = spread (d.b 0) := pay19_eq _ _ fun r => (C 2 _ r).trans (hdb 0 r).symm
  have e2 : k0_pay20 (col c arg0 harg0 arg1 harg1 arg2 harg2 arg3 harg3 arg4 harg4 arg5 harg5 arg6 harg6 arg7 harg7 arg8 harg8 arg9 harg9 x0 x1 x2 3 inb_S4096x8_S4096x1_0_3) = spread (d.b 1) := pay20_eq _ _ fun r => (C 3 _ r).trans (hdb 1 r).symm
  have e3 : k0_pay21 (col c arg0 harg0 arg1 harg1 arg2 harg2 arg3 harg3 arg4 harg4 arg5 harg5 arg6 harg6 arg7 harg7 arg8 harg8 arg9 harg9 x0 x1 x2 4 inb_S4096x8_S4096x1_0_4) = spread (d.b 2) := pay21_eq _ _ fun r => (C 4 _ r).trans (hdb 2 r).symm
  have e4 : k0_pay22 (col c arg0 harg0 arg1 harg1 arg2 harg2 arg3 harg3 arg4 harg4 arg5 harg5 arg6 harg6 arg7 harg7 arg8 harg8 arg9 harg9 x0 x1 x2 5 inb_S4096x8_S4096x1_0_5) = spread (d.b 3) := pay22_eq _ _ fun r => (C 5 _ r).trans (hdb 3 r).symm
  rw [e0, e1, e2, e3, e4, coords_eq]

/-- The class column. -/
theorem class_col : k0_pay24 (F := Ideal) 80#32 (k0_pay23 (col c arg0 harg0 arg1 harg1 arg2 harg2 arg3 harg3 arg4 harg4 arg5 harg5 arg6 harg6 arg7 harg7 arg8 harg8 arg9 harg9 x0 x1 x2 1 inb_S4096x8_S4096x1_0_1)) = spread fun r => (((d.c r : ℕ) : ℝ) : EReal) := by
  have e := class_eq (col c arg0 harg0 arg1 harg1 arg2 harg2 arg3 harg3 arg4 harg4 arg5 harg5 arg6 harg6 arg7 harg7 arg8 harg8 arg9 harg9 x0 x1 x2 1 inb_S4096x8_S4096x1_0_1) (fun r => g ((rankE f g hg).symm r)) (fun r => hlt _)
    fun r => (col_eq c arg0 harg0 arg1 harg1 arg2 harg2 arg3 harg3 arg4 harg4 arg5 harg5 arg6 harg6 arg7 harg7 arg8 harg8 arg9 harg9 x0 x1 x2 f g hg h1 h2 ha hb 1 _ r).trans (hb _)
  rw [e]
  congr 1
  funext r
  rw [hdc]

/-- The kernel's boxes. -/
theorem body_boxes : View.canon (kernelRun0_A (F := Ideal) c arg0 harg0 arg1 harg1 arg2 harg2 arg3 harg3 arg4 harg4 arg5 harg5 arg6 harg6 arg7 harg7 arg8 harg8 arg9 harg9 x0 x1 x2 x3).1 = fun y => d.outBox (y 0).val (y 1) := by
  have e := loop_eq c arg0 harg0 arg1 harg1 arg2 harg2 arg3 harg3 arg4 harg4 arg5 harg5 arg6 harg6 arg7 harg7 arg8 harg8 arg9 harg9 x0 x1 x2 x3 f g hg h1 h2 ha hb d hds hdb hdc hlt hsp
  have L := boxes_laid Variants.none c none arg0 harg0 arg1 harg1 arg2 harg2 arg3 harg3 arg4 harg4 arg5 harg5 arg6 harg6 arg7 harg7 arg8 harg8 arg9 harg9 d _ x3 (class_col c arg0 harg0 arg1 harg1 arg2 harg2 arg3 harg3 arg4 harg4 arg5 harg5 arg6 harg6 arg7 harg7 arg8 harg8 arg9 harg9 x0 x1 x2 x3 f g hg h1 h2 ha hb d hds hdb hdc hlt hsp) hsp (Scf.trips k0_t3_loop.lb k0_t3_loop.ub k0_t3_loop.st) le_rfl
  have t : (Scf.trips k0_t3_loop.lb k0_t3_loop.ub k0_t3_loop.st) = 300 := by decide +kernel
  rw [run_boxes, e]
  exact Lays.read _ _ _ _ L (by rw [t]; exact le_refl 300)

/-- The kernel's scores. -/
theorem body_scores : View.canon (kernelRun0_A (F := Ideal) c arg0 harg0 arg1 harg1 arg2 harg2 arg3 harg3 arg4 harg4 arg5 harg5 arg6 harg6 arg7 harg7 arg8 harg8 arg9 harg9 x0 x1 x2 x3).2.1 = fun y => d.outScore (y 0).val := by
  have e := loop_eq c arg0 harg0 arg1 harg1 arg2 harg2 arg3 harg3 arg4 harg4 arg5 harg5 arg6 harg6 arg7 harg7 arg8 harg8 arg9 harg9 x0 x1 x2 x3 f g hg h1 h2 ha hb d hds hdb hdc hlt hsp
  have L := scores_laid Variants.none c none arg0 harg0 arg1 harg1 arg2 harg2 arg3 harg3 arg4 harg4 arg5 harg5 arg6 harg6 arg7 harg7 arg8 harg8 arg9 harg9 d _ x3 (class_col c arg0 harg0 arg1 harg1 arg2 harg2 arg3 harg3 arg4 harg4 arg5 harg5 arg6 harg6 arg7 harg7 arg8 harg8 arg9 harg9 x0 x1 x2 x3 f g hg h1 h2 ha hb d hds hdb hdc hlt hsp) hsp (Scf.trips k0_t3_loop.lb k0_t3_loop.ub k0_t3_loop.st) le_rfl
  have t : (Scf.trips k0_t3_loop.lb k0_t3_loop.ub k0_t3_loop.st) = 300 := by decide +kernel
  rw [run_scores, e]
  exact Lays.read _ _ _ _ L (by rw [t]; exact le_refl 300)

/-- The kernel's classes. -/
theorem body_classes : View.canon (kernelRun0_A (F := Ideal) c arg0 harg0 arg1 harg1 arg2 harg2 arg3 harg3 arg4 harg4 arg5 harg5 arg6 harg6 arg7 harg7 arg8 harg8 arg9 harg9 x0 x1 x2 x3).2.2.1 = fun y => d.outClass (y 0).val := by
  have e := loop_eq c arg0 harg0 arg1 harg1 arg2 harg2 arg3 harg3 arg4 harg4 arg5 harg5 arg6 harg6 arg7 harg7 arg8 harg8 arg9 harg9 x0 x1 x2 x3 f g hg h1 h2 ha hb d hds hdb hdc hlt hsp
  have L := classes_laid Variants.none c none arg0 harg0 arg1 harg1 arg2 harg2 arg3 harg3 arg4 harg4 arg5 harg5 arg6 harg6 arg7 harg7 arg8 harg8 arg9 harg9 d (fun r => by rw [hdc]; exact Nat.mod_lt _ (by norm_num)) _ x3 (class_col c arg0 harg0 arg1 harg1 arg2 harg2 arg3 harg3 arg4 harg4 arg5 harg5 arg6 harg6 arg7 harg7 arg8 harg8 arg9 harg9 x0 x1 x2 x3 f g hg h1 h2 ha hb d hds hdb hdc hlt hsp) hsp (Scf.trips k0_t3_loop.lb k0_t3_loop.ub k0_t3_loop.st) le_rfl
  have t : (Scf.trips k0_t3_loop.lb k0_t3_loop.ub k0_t3_loop.st) = 300 := by decide +kernel
  rw [run_classes, e]
  exact Lays.read _ _ _ _ L (by rw [t]; exact le_refl 300)

/-- The kernel's count. -/
theorem body_count : View.canon (kernelRun0_A (F := Ideal) c arg0 harg0 arg1 harg1 arg2 harg2 arg3 harg3 arg4 harg4 arg5 harg5 arg6 harg6 arg7 harg7 arg8 harg8 arg9 harg9 x0 x1 x2 x3).2.2.2.1 = fun _ => BitVec.ofNat 32 (d.count 300) := by
  have e := loop_eq c arg0 harg0 arg1 harg1 arg2 harg2 arg3 harg3 arg4 harg4 arg5 harg5 arg6 harg6 arg7 harg7 arg8 harg8 arg9 harg9 x0 x1 x2 x3 f g hg h1 h2 ha hb d hds hdb hdc hlt hsp
  have L := carry_eq Variants.none c none arg0 harg0 arg1 harg1 arg2 harg2 arg3 harg3 arg4 harg4 arg5 harg5 arg6 harg6 arg7 harg7 arg8 harg8 arg9 harg9 d _ x3 (class_col c arg0 harg0 arg1 harg1 arg2 harg2 arg3 harg3 arg4 harg4 arg5 harg5 arg6 harg6 arg7 harg7 arg8 harg8 arg9 harg9 x0 x1 x2 x3 f g hg h1 h2 ha hb d hds hdb hdc hlt hsp) hsp (Scf.trips k0_t3_loop.lb k0_t3_loop.ub k0_t3_loop.st) le_rfl
  have t : (Scf.trips k0_t3_loop.lb k0_t3_loop.ub k0_t3_loop.st) = 300 := by decide +kernel
  rw [run_count, e, L, t]
  exact View.canon_unit_zero (by funext a; match a with | ⟨0, _⟩ => rfl) _ _
end Run
end Cert.Nms
end
-- ==== Proof.Rows.lean ====
/- The rows of the table before the call: a position's box number is its quotient by the number of classes, and the
   table's row holds the value, the position and the box. -/
module

public import proofs.«01_k».proof.Proof.HostRead
public import Idealize.ShloMosaic.Lib.Pointwise
public import Idealize.ShloMosaic.Lib.Routing.Words
public import Idealize.ShloMosaic.Lib.Routing.Ops
public import Idealize.ShloMosaic.Lib.ReduceAll
public import proofs.«01_k».proof.Proof.Body

@[expose] public section

set_option maxRecDepth 16384

noncomputable section

namespace Cert.Nms

open Cert.KernelIdeal Cert.KernelIdeal.Gen
open Idealize.ShloMosaic Idealize.ShloMosaic.TcCoe Idealize.ShloMosaic.Routing

/-- Floor division of non-negative words is division of numbers. -/
theorem floorDiv_at (x : IVec S4096 32) (l : Fin 4096) (p : ℕ) (hp : p < 2 ^ 31) (h : x (ix1 l) = BitVec.ofNat 32 p) :
    floorDiv x (constantI S_ 32 80#32) (ix1 l) = BitVec.ofNat 32 (p / 80) :=
  pyDiv_ap (s := S4096) (hb := bcast_S_S4096) x (constantI S_ 32 80#32) (ix1 l) (b := 80) h rfl hp (by decide) (by decide)

theorem rowCol_at (x : IVec S4096 32) (l : Fin 4096) (b : ℕ) (hb : b < 20000) (h : x (ix1 l) = BitVec.ofNat 32 b) :
    rowCol x (ix2 l 0) = BitVec.ofNat 32 b := by
  have e : rowCol x (ix2 l 0) = Scalar.select (IntOp.cmpi .slt (x (ix1 l)) 0#32) (IntOp.addi (x (ix1 l)) 20000#32) (x (ix1 l)) := by
    unfold rowCol
    pointwise
  have ht := StableHlo.Predicate.toInt_ofNat_small b (by omega)
  have hs : (BitVec.ofNat 32 b).slt 0#32 = false := by
    rw [BitVec.slt, ht]
    exact decide_eq_false (by simp)
  have hc : IntOp.cmpi .slt (BitVec.ofNat 32 b) 0#32 = 0#1 := congrArg BitVec.ofBool hs
  rw [e, h, hc]
  rfl

/-- Where every row number is in range, all the rows are. -/
theorem inRange_at (x : IVec S4096 32) (b : Fin 4096 → Fin 20000) (h : ∀ l, x (ix1 l) = BitVec.ofNat 32 (b l).val) (l : Fin 4096) :
    inRange x (ix1 l) = 1#1 := by
  unfold inRange
  refine Host.reduce_andi_one _ _ _ _ _ rfl fun i => ?_
  obtain ⟨r, hr⟩ : ∃ r : Fin 4096, i = ix2 r (0 : Fin 1) :=
    ⟨i 0, (eq_ix2 i).trans (congrArg (ix2 (i 0)) (Subsingleton.elim _ _))⟩
  rw [hr]
  have hw := rowCol_at x r (b r).val (b r).isLt (h r)
  have e : andi (cmpi .sge (rowCol x) (broadcastInDim S4096x1 ![] bcast_S_S4096x1 (constantI S_ 32 0#32)))
      (cmpi .sle (rowCol x) (broadcastInDim S4096x1 ![0, 1] bcast_S1x1_S4096x1_0_1 (broadcastInDim S1x1 ![1] bcast_S1_S1x1_1 (constantI S1 32 19999#32)))) (ix2 r (0 : Fin 1))
      = IntOp.andi (IntOp.cmpi .sge (rowCol x (ix2 r 0)) 0#32) (IntOp.cmpi .sle (rowCol x (ix2 r 0)) 19999#32) := by
    generalize rowCol x = w
    pointwise
  rw [e, hw]
  have ht := StableHlo.Predicate.toInt_ofNat_small (b r).val (by have := (b r).isLt; omega)
  have h1 : (0#32).sle (BitVec.ofNat 32 (b r).val) = true := by
    rw [BitVec.sle, ht]; exact decide_eq_true (by simp)
  have h2 : (BitVec.ofNat 32 (b r).val).sle 19999#32 = true := by
    rw [BitVec.sle, ht]; exact decide_eq_true (show ((b r).val : ℤ) ≤ 19999 by have := (b r).isLt; omega)
  show IntOp.andi (BitVec.ofBool ((0#32).sle (BitVec.ofNat 32 (b r).val))) (BitVec.ofBool ((BitVec.ofNat 32 (b r).val).sle 19999#32)) = 1#1
  rw [h1, h2]
  rfl

/-- The rows taken from the table of boxes. -/
def takeRows (v0 : FVec Ideal S20000x4 .f32) (v41 : IVec S4096 32) : FVec Ideal S4096x4 .f32 :=
  select (broadcastInDim S4096x4 ![0] bcast_S4096_S4096x4_0 (inRange v41))
    (Host.gather gather_S20000x4_S4096x1_S4096x4_1_0_n_n_0_1_14 v0 (rowCol v41))
    (broadcastInDim S4096x4 ![] bcast_S_S4096x4 (constant (F := Ideal) S_ .f32 0x7FC00000#32))

theorem takeRows_at (v0 : FVec Ideal S20000x4 .f32) (x : IVec S4096 32) (b : Fin 4096 → Fin 20000)
    (h : ∀ l, x (ix1 l) = BitVec.ofNat 32 (b l).val) (l : Fin 4096) (k : Fin 4) : takeRows v0 x (ix2 l k) = v0 (ix2 (b l) k) := by
  have hg := gather_row gather_S20000x4_S4096x1_S4096x4_1_0_n_n_0_1_14 rfl rfl rfl rfl rfl v0 (rowCol x) l k (b l)
    (rowCol_at x l (b l).val (b l).isLt (h l)) (by decide)
  have hr := inRange_at x b h l
  have e : takeRows v0 x (ix2 l k) = Scalar.select (inRange x (ix1 l)) (Host.gather gather_S20000x4_S4096x1_S4096x4_1_0_n_n_0_1_14 v0 (rowCol x) (ix2 l k))
      (Ideal.ofBits FTy.f32 0x7FC00000#32) := by
    unfold takeRows
    generalize Host.gather _ _ _ = w
    generalize inRange x = z
    pointwise
  rw [e, hr]
  exact hg

section
variable (v31 : FVec Ideal S4096 .f32) (v40 : IVec S4096 32) (v42 : FVec Ideal S4096x4 .f32) (r : Fin 4096)

theorem tableArr_value : tableArr v31 v40 v42 (ix2 r 0) = v31 (ix1 r) := by
  unfold tableArr asCol
  pointwise
theorem tableArr_position : tableArr v31 v40 v42 (ix2 r 1) = (((v40 (ix1 r)).toInt : ℝ) : EReal) := by
  unfold tableArr asCol
  pointwise
  rfl
theorem tableArr_box (k : Fin 4) : tableArr v31 v40 v42 (ix2 r (corner k)) = v42 (ix2 r k) := by
  unfold tableArr asCol
  match k with
  | 0 => show concatenate _ _ _ _ (ix2 r (2 : Fin 8)) = _; pointwise
  | 1 => show concatenate _ _ _ _ (ix2 r (3 : Fin 8)) = _; pointwise
  | 2 => show concatenate _ _ _ _ (ix2 r (4 : Fin 8)) = _; pointwise
  | 3 => show concatenate _ _ _ _ (ix2 r (5 : Fin 8)) = _; pointwise
end

end Cert.Nms
end
-- ==== Proof.Read.lean ====
/- What the whole call leaves: each output array is what the one grid point's body computes from the four input arrays. -/
module

public import proofs.«01_k».proof.Proof.Body
public import proofs.«01_k».proof.Proof.Gen.KernelIdeal.Value

@[expose] public section

set_option maxRecDepth 16384

noncomputable section

namespace Cert.Nms

open Cert.KernelIdeal Cert.KernelIdeal.Gen
open Idealize.ShloMosaic Idealize.ShloMosaic.TcCoe

/-- The only grid point. -/
abbrev t0 : Fin cfg0.N := ⟨0, by decide⟩

variable (m : (ℓ : Loc nD τ sig) → Buf (Elt Ideal) ℓ)

/-- Every window starts at the origin. -/
theorem origin : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ win0_5.index t (0 : Fin 1) = 0 ∧ win0_6.index t (0 : Fin 1) = 0 ∧ win0_7.index t (0 : Fin 1) = 0 :=
  (by decide +kernel : ∀ t : Fin grid0.N, _)

theorem place0 (y : S4096x8.Idx) : ((cfg0.win 0).blk t0).view.emb y = y := by
  obtain ⟨e0, e1⟩ := (origin t0).1
  funext a; apply Fin.ext
  match a with
  | ⟨0, _⟩ => show win0_0.index t0 (0 : Fin 2) * 4096 + 1 * (y 0).val = (y 0).val; omega
  | ⟨1, _⟩ => show win0_0.index t0 (1 : Fin 2) * 8 + 1 * (y 1).val = (y 1).val; omega

theorem place1 (y : S1x4096.Idx) : ((cfg0.win 1).blk t0).view.emb y = y := by
  obtain ⟨e0, e1⟩ := (origin t0).2.1
  funext a; apply Fin.ext
  match a with
  | ⟨0, _⟩ => show win0_1.index t0 (0 : Fin 2) * 1 + 1 * (y 0).val = (y 0).val; omega
  | ⟨1, _⟩ => show win0_1.index t0 (1 : Fin 2) * 4096 + 1 * (y 1).val = (y 1).val; omega

theorem place2 (y : S1x4096.Idx) : ((cfg0.win 2).blk t0).view.emb y = y := by
  obtain ⟨e0, e1⟩ := (origin t0).2.2.1
  funext a; apply Fin.ext
  match a with
  | ⟨0, _⟩ => show win0_2.index t0 (0 : Fin 2) * 1 + 1 * (y 0).val = (y 0).val; omega
  | ⟨1, _⟩ => show win0_2.index t0 (1 : Fin 2) * 4096 + 1 * (y 1).val = (y 1).val; omega

theorem place3 (y : S625x128.Idx) : ((cfg0.win 3).blk t0).view.emb y = y := by
  obtain ⟨e0, e1⟩ := (origin t0).2.2.2.1
  funext a; apply Fin.ext
  match a with
  | ⟨0, _⟩ => show win0_3.index t0 (0 : Fin 2) * 625 + 1 * (y 0).val = (y 0).val; omega
  | ⟨1, _⟩ => show win0_3.index t0 (1 : Fin 2) * 128 + 1 * (y 1).val = (y 1).val; omega

theorem place4 (y : S300x4.Idx) : ((cfg0.win 4).blk t0).view.emb y = y := by
  obtain ⟨e0, e1⟩ := (origin t0).2.2.2.2.1
  funext a; apply Fin.ext
  match a with
  | ⟨0, _⟩ => show win0_4.index t0 (0 : Fin 2) * 300 + 1 * (y 0).val = (y 0).val; omega
  | ⟨1, _⟩ => show win0_4.index t0 (1 : Fin 2) * 4 + 1 * (y 1).val = (y 1).val; omega

theorem place5 (y : S300.Idx) : ((cfg0.win 5).blk t0).view.emb y = y := by
  have e0 := (origin t0).2.2.2.2.2.1
  funext a; apply Fin.ext
  match a with
  | ⟨0, _⟩ => show win0_5.index t0 (0 : Fin 1) * 300 + 1 * (y 0).val = (y 0).val; omega

theorem place6 (y : S300.Idx) : ((cfg0.win 6).blk t0).view.emb y = y := by
  have e0 := (origin t0).2.2.2.2.2.2.1
  funext a; apply Fin.ext
  match a with
  | ⟨0, _⟩ => show win0_6.index t0 (0 : Fin 1) * 300 + 1 * (y 0).val = (y 0).val; omega

theorem place7 (y : S1.Idx) : ((cfg0.win 7).blk t0).view.emb y = y := by
  have e0 := (origin t0).2.2.2.2.2.2.2
  funext a; apply Fin.ext
  match a with
  | ⟨0, _⟩ => show win0_7.index t0 (0 : Fin 1) * 1 + 1 * (y 0).val = (y 0).val; omega

/-- A view's read at an entry, its element type aside. -/
theorem read_of {s : Shape} {e : EltTy} {sp : Space} (v : View sig .tc sp s e) (f : v.ty.Contents (Elt Ideal)) (x : s.Idx) (r : Elt Ideal e) (h : HEq (f (v.emb x)) r) :
    v.read (Elt Ideal) f x = r :=
  eq_of_heq ((cast_heq _ _).trans h)

theorem input0 (c : Dev nD) (x : Vec Ideal S4096x8 .f32) (h : V m c main_v61 = x) : iblk m c 0 t0 = x := by
  funext z
  unfold iblk
  refine read_of _ _ _ _ ?_
  exact heq_of_eq ((congrArg (V m c main_v61) (place0 z)).trans (congrFun h z))

theorem input1 (c : Dev nD) (x : Vec Ideal S1x4096 .f32) (h : V m c main_v62 = x) : iblk m c 1 t0 = x := by
  funext z
  unfold iblk
  refine read_of _ _ _ _ ?_
  exact heq_of_eq ((congrArg (V m c main_v62) (place1 z)).trans (congrFun h z))

theorem input2 (c : Dev nD) (x : Vec Ideal S1x4096 .f32) (h : V m c main_v63 = x) : iblk m c 2 t0 = x := by
  funext z
  unfold iblk
  refine read_of _ _ _ _ ?_
  exact heq_of_eq ((congrArg (V m c main_v63) (place2 z)).trans (congrFun h z))

theorem input3 (c : Dev nD) (x : Vec Ideal S625x128 .f32) (h : V m c main_v64 = x) : iblk m c 3 t0 = x := by
  funext z
  unfold iblk
  refine read_of _ _ _ _ ?_
  exact heq_of_eq ((congrArg (V m c main_v64) (place3 z)).trans (congrFun h z))

theorem final4 (c : Dev nD) (y : S300x4.Idx) : (dats m 0 c).arrAt 4 cfg0.N y
    = out0_A_4 c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0) (iblk m c 1 t0) (iblk m c 2 t0) (iblk m c 3 t0) y := by
  have b := congrFun (Cert.KernelIdeal.Value.blocks4 m c t0 rfl) y
  rw [Cert.KernelIdeal.Value.flushed4_A] at b
  have b' : (dats m 0 c).arrAt 4 cfg0.N (((cfg0.win 4).blk t0).view.emb y) = _ := b
  rw [place4] at b'
  exact b'

theorem final5 (c : Dev nD) (y : S300.Idx) : (dats m 0 c).arrAt 5 cfg0.N y
    = out0_A_5 c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0) (iblk m c 1 t0) (iblk m c 2 t0) (iblk m c 3 t0) y := by
  have b := congrFun (Cert.KernelIdeal.Value.blocks5 m c t0 rfl) y
  rw [Cert.KernelIdeal.Value.flushed5_A] at b
  have b' : (dats m 0 c).arrAt 5 cfg0.N (((cfg0.win 5).blk t0).view.emb y) = _ := b
  rw [place5] at b'
  exact b'

theorem final6 (c : Dev nD) (y : S300.Idx) : (dats m 0 c).arrAt 6 cfg0.N y
    = out0_A_6 c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0) (iblk m c 1 t0) (iblk m c 2 t0) (iblk m c 3 t0) y := by
  have b := congrFun (Cert.KernelIdeal.Value.blocks6 m c t0 rfl) y
  rw [Cert.KernelIdeal.Value.flushed6_A] at b
  have b' : (dats m 0 c).arrAt 6 cfg0.N (((cfg0.win 6).blk t0).view.emb y) = _ := b
  rw [place6] at b'
  exact b'

theorem final7 (c : Dev nD) (y : S1.Idx) : (dats m 0 c).arrAt 7 cfg0.N y
    = out0_A_7 c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0) (iblk m c 1 t0) (iblk m c 2 t0) (iblk m c 3 t0) y := by
  have b := congrFun (Cert.KernelIdeal.Value.blocks7 m c t0 rfl) y
  rw [Cert.KernelIdeal.Value.flushed7_A] at b
  have b' : (dats m 0 c).arrAt 7 cfg0.N (((cfg0.win 7).blk t0).view.emb y) = _ := b
  rw [place7] at b'
  exact b'

section Final
variable (c : Dev nD) (f : Fin 4096 → EReal) (g : Fin 4096 → ℕ) (hg : Function.Injective g)
  (x0 : Vec Ideal S4096x8 .f32) (x1 x2 : Vec Ideal S1x4096 .f32) (x3 : Vec Ideal S625x128 .f32)
  (r0 : V m c main_v61 = x0) (r1 : V m c main_v62 = x1) (r2 : V m c main_v63 = x2) (r3 : V m c main_v64 = x3)
  (h1 : ∀ j, x1 (ix2 0 j) = f j) (h2 : ∀ j, x2 (ix2 0 j) = (((g j : ℕ) : ℝ) : EReal))
  (ha : ∀ j, x0 (ix2 j 0) = f j) (hb : ∀ j, x0 (ix2 j 1) = (((g j : ℕ) : ℝ) : EReal))
  (d : Cand) (hds : ∀ r, d.s r = f ((rankE f g hg).symm r)) (hdb : ∀ (k : Fin 4) r, d.b k r = x0 (ix2 ((rankE f g hg).symm r) (corner k)))
  (hdc : ∀ r, d.c r = g ((rankE f g hg).symm r) % 80) (hlt : ∀ j, g j < 2 ^ 31)
  (hsp : Finset.fold max (Ideal.ofBits FTy.f32 4286578688#32) (fun x : Fin 625 × Fin 128 => x3 (ix2 x.1 x.2)) Finset.univ
    - Finset.fold min (Ideal.ofBits FTy.f32 2139095040#32) (fun x : Fin 625 × Fin 128 => x3 (ix2 x.1 x.2)) Finset.univ + 1 = d.span)
include r0 r1 r2 r3 h1 h2 ha hb hds hdb hdc hlt hsp

/-- The call's boxes. -/
theorem call_boxes : (dats m 0 c).arrAt 4 cfg0.N = fun y => d.outBox (y 0).val (y 1) := by
  funext y
  rw [final4, input0 m c x0 r0, input1 m c x1 r1, input2 m c x2 r2, input3 m c x3 r3]
  unfold out0_A_4
  rw [View.read_writes_junk_eq_canon]
  exact congrFun (body_boxes c _ _ _ _ _ _ _ _ _ _ _ _ _ _ _ _ _ _ _ _ x0 x1 x2 x3 f g hg h1 h2 ha hb d hds hdb hdc hlt hsp) y

/-- The call's scores. -/
theorem call_scores : (dats m 0 c).arrAt 5 cfg0.N = fun y => d.outScore (y 0).val := by
  funext y
  rw [final5, input0 m c x0 r0, input1 m c x1 r1, input2 m c x2 r2, input3 m c x3 r3]
  unfold out0_A_5
  rw [View.read_writes_junk_eq_canon]
  exact congrFun (body_scores c _ _ _ _ _ _ _ _ _ _ _ _ _ _ _ _ _ _ _ _ x0 x1 x2 x3 f g hg h1 h2 ha hb d hds hdb hdc hlt hsp) y

/-- The call's classes. -/
theorem call_classes : (dats m 0 c).arrAt 6 cfg0.N = fun y => d.outClass (y 0).val := by
  funext y
  rw [final6, input0 m c x0 r0, input1 m c x1 r1, input2 m c x2 r2, input3 m c x3 r3]
  unfold out0_A_6
  rw [View.read_writes_junk_eq_canon]
  exact congrFun (body_classes c _ _ _ _ _ _ _ _ _ _ _ _ _ _ _ _ _ _ _ _ x0 x1 x2 x3 f g hg h1 h2 ha hb d hds hdb hdc hlt hsp) y

/-- The call's count. -/
theorem call_count : (dats m 0 c).arrAt 7 cfg0.N = fun _ => BitVec.ofNat 32 (d.count 300) := by
  funext y
  rw [final7, input0 m c x0 r0, input1 m c x1 r1, input2 m c x2 r2, input3 m c x3 r3]
  unfold out0_A_7
  rw [View.read_writes_junk_eq_canon]
  exact congrFun (body_count c _ _ _ _ _ _ _ _ _ _ _ _ _ _ _ _ _ _ _ _ x0 x1 x2 x3 f g hg h1 h2 ha hb d hds hdb hdc hlt hsp) y

end Final
end Cert.Nms
end
-- ==== Proof.KernelValue.lean ====
/- What the kernel's program leaves, from its arguments: the suppression model over the selected positions in the order
   of their scores. -/
module

public import proofs.«01_k».proof.Proof.Cands
public import proofs.«01_k».proof.Proof.Slots
public import proofs.«01_k».proof.Proof.Rows
public import proofs.«01_k».proof.Proof.Read
public import proofs.«01_k».proof.Proof.Gen.KernelIdeal.Value

@[expose] public section

set_option maxRecDepth 16384

noncomputable section

namespace Cert.Nms

open Cert.KernelIdeal Cert.KernelIdeal.Gen
open Idealize.ShloMosaic Idealize.ShloMosaic.TcCoe Idealize.ShloMosaic.StableHlo

section Arrays
variable (a0 : FVec Ideal S1x20000x4 .f32) (a1 : FVec Ideal S1x20000x80 .f32) (a2 : FVec Ideal S1 .f32) (a3 : IVec S1 32)

/-- The boxes. -/
def boxArr : FVec Ideal S20000x4 .f32 := shapeCast S20000x4 a0 shapeCasts_S1x20000x4_S20000x4

/-- The scores in one list. -/
def rawArr : FVec Ideal S1600000 .f32 := shapeCast S1600000 (shapeCast S20000x80 a1 shapeCasts_S1x20000x80_S20000x80) shapeCasts_S20000x80_S1600000

/-- The scores with those below the threshold set to −1. -/
def flatArr : FVec Ideal S1600000 .f32 :=
  select (cmpf (F := Ideal) .oge (rawArr a1) (broadcastInDim S1600000 ![] bcast_S_S1600000 (constant (F := Ideal) S_ .f32 0x3D4CCCCD#32))) (rawArr a1)
    (broadcastInDim S1600000 ![] bcast_S_S1600000 (constant (F := Ideal) S_ .f32 0xBF800000#32))

/-- The selection by the pivot and the cut. -/
def selArr (x : FVec Ideal S1600000 .f32) : IVec S1600000 1 := ori
  (cmpf (F := Ideal) .ogt x (broadcastInDim S1600000 ![] bcast_S_S1600000 (shapeCast (s := S1) (α := Ideal .f32) S_ a2 shapeCasts_S1_S_)))
  (andi (cmpf (F := Ideal) .oeq x (broadcastInDim S1600000 ![] bcast_S_S1600000 (shapeCast (s := S1) (α := Ideal .f32) S_ a2 shapeCasts_S1_S_)))
    (cmpi .slt (iotaInDim S1600000 32 0) (broadcastInDim S1600000 ![] bcast_S_S1600000 (shapeCast S_ a3 shapeCasts_S1_S_))))
end Arrays

section Chain
variable (W : Valuation τ sig (Elt Ideal))

/-- The arrays after the first three groups. -/
def afterA : Valuation τ sig (Elt Ideal) := after hostOps0_2 (after hostOps0_1 (after hostOps0 W))
/-- The arrays after the next three. -/
def afterB : Valuation τ sig (Elt Ideal) := after hostOps0_5 (after hostOps0_4 (after hostOps0_3 W))
/-- The arrays after the last four. -/
def afterC : Valuation τ sig (Elt Ideal) := after hostOps0_9 (after hostOps0_8 (after hostOps0_7 (after hostOps0_6 W)))

theorem a_v0 : afterA W main_v0 = boxArr (W main_arg0) := by
  unfold afterA
  rw [g2_v0, g1_v0, g0_v0]
  rfl
theorem a_v5 : afterA W main_v5 = flatArr (W main_arg1) := by
  unfold afterA
  rw [g2_v5, g1_v5, g0_v4, g0_v2, g0_cst]
  rfl
theorem a_v6 : afterA W main_v6 = iotaInDim S1600000 32 0 := by
  unfold afterA
  rw [g2_v6]
theorem a_v17 : afterA W main_v17 = selArr (W main_arg2) (W main_arg3) (flatArr (W main_arg1)) := by
  rw [← a_v5]
  unfold afterA
  rw [g2_v17, g2_v5, g1_arg2, g1_arg3, g0_arg2, g0_arg3]
  rfl
theorem a_v18 : afterA W main_v18 = extui 32 (afterA W main_v17 : IVec S1600000 1) natLt_1_32 := by
  unfold afterA
  rw [g2_v18]

theorem b_v0 : afterB W main_v0 = W main_v0 := by
  unfold afterB
  rw [g5_v0, g4_v0, g3_v0]
theorem b_v5 : afterB W main_v5 = W main_v5 := by
  unfold afterB
  rw [g5_v5, g4_v5, g3_v5]
theorem b_v6 : afterB W main_v6 = W main_v6 := by
  unfold afterB
  rw [g5_v6, g4_v6, g3_v6]
theorem b_v22 : afterB W main_v22 = slotWords (W main_v17) (runCount (W main_v18)) := by
  unfold afterB
  rw [g5_v22, g4_v17, g3_v17, g4_v21, g4_c, g3_v19]
  rfl

/-- The packed values. -/
def valArr (v22 : IVec S1600000 32) (v5 : FVec Ideal S1600000 .f32) : FVec Ideal S4096 .f32 := extractStridedSlice S4096 ![0]
    (Host.scatter scatter_S4097_S1600000x1_S1600000_n_0_0_1 (fun _ b => b) (broadcastInDim S4097 ![] bcast_S_S4097 (constant (F := Ideal) S_ .f32 0x00000000#32))
      (slotCol v22) v5) slices_S4097_S4096_0
/-- The packed positions. -/
def posArr (v22 : IVec S1600000 32) (v6 : IVec S1600000 32) : IVec S4096 32 := extractStridedSlice S4096 ![0]
    (Host.scatter scatter_S4097_S1600000x1_S1600000_n_0_0_1 (fun _ b => b) (broadcastInDim S4097 ![] bcast_S_S4097 (constantI S_ 32 0#32))
      (slotCol v22) v6) slices_S4097_S4096_0

theorem c_v61 : afterC W main_v61 = tableArr (valArr (W main_v22) (W main_v5)) (posArr (W main_v22) (W main_v6))
    (takeRows (W main_v0) (floorDiv (posArr (W main_v22) (W main_v6)) (constantI S_ 32 80#32))) := by
  unfold afterC
  rw [g9_v61, g8_v31, g7_v31, g6_v31, g8_v40, g7_v40, g6_v40, g8_v42, g7_v0, g6_v0, g7_v41, g6_v40, g6_c]
  rfl
theorem c_v62 : afterC W main_v62 = shapeCast S1x4096 (valArr (W main_v22) (W main_v5)) shapeCasts_S4096_S1x4096 := by
  unfold afterC
  rw [g9_v62, g8_v31, g7_v31, g6_v31]
  rfl
theorem c_v63 : afterC W main_v63 = shapeCast S1x4096 (sitofp (F := Ideal) .f32 (posArr (W main_v22) (W main_v6))) shapeCasts_S4096_S1x4096 := by
  unfold afterC
  rw [g9_v63, g8_v40, g7_v40, g6_v40]
  rfl
theorem c_v64 : afterC W main_v64 = shapeCast S625x128 (W main_v0 : FVec Ideal S20000x4 .f32) shapeCasts_S20000x4_S625x128 := by
  unfold afterC
  rw [g9_v64, g8_v0, g7_v0, g6_v0]
end Chain

/-- The spread of the coordinates does not depend on how they are laid out. -/
theorem span_laid (b : FVec Ideal S20000x4 .f32) (x : FVec Ideal S625x128 .f32) (hx : x = shapeCast S625x128 b shapeCasts_S20000x4_S625x128) :
    Finset.fold max (Ideal.ofBits FTy.f32 4286578688#32) (fun y : Fin 625 × Fin 128 => (x (ix2 y.1 y.2) : EReal)) Finset.univ
      - Finset.fold min (Ideal.ofBits FTy.f32 2139095040#32) (fun y : Fin 625 × Fin 128 => (x (ix2 y.1 y.2) : EReal)) Finset.univ + 1 = spanOf b := by
  have e : (Finset.univ : Finset S20000x4.Idx)
      = Finset.univ.map ((ValueIdx.idxEquiv2 (n0 := 625) (n1 := 128)).symm.trans (Shape.reshapeEquiv shapeCasts_S20000x4_S625x128)).toEmbedding :=
    (Finset.map_univ_equiv _).symm
  unfold spanOf
  rw [e, Finset.fold_map, Finset.fold_map, hx]
  rfl

/-- The arrays the call reads are those the groups leave. -/
theorem V_eq (m : (ℓ : Loc nD τ sig) → Buf (Elt Ideal) ℓ) (c : Dev nD) (b : Ref sig .tc) :
    V m c b = afterC (afterB (afterA fun b => m (c, b))) b := by
  show after (List.flatten _) _ (Proc.tc.devRef b) = _
  rw [after_flatten]
  rfl

section Result
variable (a0 : FVec Ideal S1x20000x4 .f32) (a1 : FVec Ideal S1x20000x80 .f32) (a2 : FVec Ideal S1 .f32) (a3 : IVec S1 32)

/-- A position's score. -/
def score (p : Fin 1600000) : EReal := flatArr a1 (ix1 p)

/-- The selected positions. -/
def picked : Finset (Fin 1600000) := chosen (selArr a2 a3 (flatArr a1))

variable (hS : (picked a1 a2 a3).card = 4096)

/-- A selected position by its place in the list. -/
def place (l : Fin 4096) : Fin 1600000 := pos (picked a1 a2 a3) hS l

theorem place_injective : Function.Injective fun l => (place a1 a2 a3 hS l).val := fun _ _ h =>
  (pos (picked a1 a2 a3) hS).injective (Fin.ext h)

/-- The selected positions by falling score. -/
def order (r : Fin 4096) : Fin 1600000 :=
  place a1 a2 a3 hS ((rankE (fun l => score a1 (place a1 a2 a3 hS l)) (fun l => (place a1 a2 a3 hS l).val) (place_injective a1 a2 a3 hS)).symm r)

/-- The suppression model the kernel's program computes. -/
def cand : Cand := candOf (boxArr a0) (score a1) (order a1 a2 a3 hS)
end Result

section Packed
variable (sel : IVec S1600000 1) (hS : (chosen sel).card = 4096)

theorem valArr_at (x : FVec Ideal S1600000 .f32) (l : Fin 4096) :
    valArr (slotWords sel (runCount (extui 32 sel natLt_1_32))) x (ix1 l) = x (ix1 (pos (chosen sel) hS l)) := by
  unfold valArr
  exact packed sel hS _ x l

theorem iota_at (p : Fin 1600000) : iotaInDim S1600000 32 0 (ix1 p) = BitVec.ofNat 32 p.val := by
  pointwise

theorem posArr_at (l : Fin 4096) :
    posArr (slotWords sel (runCount (extui 32 sel natLt_1_32))) (iotaInDim S1600000 32 0) (ix1 l) = BitVec.ofNat 32 (pos (chosen sel) hS l).val := by
  rw [← iota_at]
  unfold posArr
  exact packed sel hS _ _ l
end Packed

section Inputs
variable (m : (ℓ : Loc nD τ sig) → Buf (Elt Ideal) ℓ) (c : Dev nD)

/-- The launch's arguments. -/
abbrev arg0 : FVec Ideal S1x20000x4 .f32 := m ((c : Thread nD τ).loc main_arg0)
abbrev arg1 : FVec Ideal S1x20000x80 .f32 := m ((c : Thread nD τ).loc main_arg1)
abbrev arg2 : FVec Ideal S1 .f32 := m ((c : Thread nD τ).loc main_arg2)
abbrev arg3 : IVec S1 32 := m ((c : Thread nD τ).loc main_arg3)

/-- The packed values of the launch. -/
def vals : FVec Ideal S4096 .f32 :=
  valArr (slotWords (selArr (arg2 m c) (arg3 m c) (flatArr (arg1 m c))) (runCount (extui 32 (selArr (arg2 m c) (arg3 m c) (flatArr (arg1 m c))) natLt_1_32))) (flatArr (arg1 m c))
/-- The packed positions of the launch. -/
def poss : IVec S4096 32 :=
  posArr (slotWords (selArr (arg2 m c) (arg3 m c) (flatArr (arg1 m c))) (runCount (extui 32 (selArr (arg2 m c) (arg3 m c) (flatArr (arg1 m c))) natLt_1_32))) (iotaInDim S1600000 32 0)

theorem in_v61 : V m c main_v61 = tableArr (vals m c) (poss m c) (takeRows (boxArr (arg0 m c)) (floorDiv (poss m c) (constantI S_ 32 80#32))) := by
  rw [V_eq, c_v61, b_v22, b_v5, b_v6, b_v0, a_v18, a_v17, a_v5, a_v6, a_v0]
  rfl
theorem in_v62 : V m c main_v62 = shapeCast S1x4096 (vals m c) shapeCasts_S4096_S1x4096 := by
  rw [V_eq, c_v62, b_v22, b_v5, a_v18, a_v17, a_v5]
  rfl
theorem in_v63 : V m c main_v63 = shapeCast S1x4096 (sitofp (F := Ideal) .f32 (poss m c)) shapeCasts_S4096_S1x4096 := by
  rw [V_eq, c_v63, b_v22, b_v6, a_v18, a_v17, a_v6]
  rfl
theorem in_v64 : V m c main_v64 = shapeCast S625x128 (boxArr (arg0 m c)) shapeCasts_S20000x4_S625x128 := by
  rw [V_eq, c_v64, b_v0, a_v0]

variable (hS : (picked (arg1 m c) (arg2 m c) (arg3 m c)).card = 4096)

theorem vals_at (l : Fin 4096) : vals m c (ix1 l) = score (arg1 m c) (place (arg1 m c) (arg2 m c) (arg3 m c) hS l) := by
  unfold vals score place
  exact valArr_at _ hS _ l

theorem poss_at (l : Fin 4096) : poss m c (ix1 l) = BitVec.ofNat 32 (place (arg1 m c) (arg2 m c) (arg3 m c) hS l).val := by
  unfold poss place
  exact posArr_at _ hS l

theorem place_lt (l : Fin 4096) : (place (arg1 m c) (arg2 m c) (arg3 m c) hS l).val < 2 ^ 31 :=
  lt_trans (Fin.isLt _) (by decide)

theorem poss_toInt (l : Fin 4096) : ((((poss m c (ix1 l)).toInt : ℤ) : ℝ) : EReal) = (((place (arg1 m c) (arg2 m c) (arg3 m c) hS l).val : ℝ) : EReal) := by
  rw [poss_at m c hS, StableHlo.Predicate.toInt_ofNat_small _ (place_lt m c hS l), Int.cast_natCast]

theorem row_at (l : Fin 4096) (k : Fin 4) :
    takeRows (boxArr (arg0 m c)) (floorDiv (poss m c) (constantI S_ 32 80#32)) (ix2 l k)
      = boxArr (arg0 m c) (ix2 (boxNo (place (arg1 m c) (arg2 m c) (arg3 m c) hS l)) k) :=
  takeRows_at _ _ (fun l => boxNo (place (arg1 m c) (arg2 m c) (arg3 m c) hS l))
    (fun l => floorDiv_at _ l _ (place_lt m c hS l) (poss_at m c hS l)) l k

/-- What the reads of the call need of its four inputs, in one statement. -/
theorem inputs :
    (∀ j, (shapeCast S1x4096 (vals m c) shapeCasts_S4096_S1x4096 : FVec Ideal S1x4096 .f32) (ix2 0 j) = score (arg1 m c) (place (arg1 m c) (arg2 m c) (arg3 m c) hS j))
    ∧ (∀ j, (shapeCast S1x4096 (sitofp (F := Ideal) .f32 (poss m c)) shapeCasts_S4096_S1x4096 : FVec Ideal S1x4096 .f32) (ix2 0 j)
        = (((place (arg1 m c) (arg2 m c) (arg3 m c) hS j).val : ℝ) : EReal)) := by
  constructor
  · intro j
    rw [← vals_at m c hS]
    generalize vals m c = w
    pointwise
  · intro j
    rw [← poss_toInt m c hS]
    generalize poss m c = w
    pointwise
    rfl

theorem kernel_boxes : (dats m 0 c).arrAt 4 cfg0.N = fun y => (cand (arg0 m c) (arg1 m c) (arg2 m c) (arg3 m c) hS).outBox (y 0).val (y 1) :=
  call_boxes m c _ _ (place_injective _ _ _ hS) _ _ _ _ (in_v61 m c) (in_v62 m c) (in_v63 m c) (in_v64 m c) (inputs m c hS).1 (inputs m c hS).2
    (fun j => (tableArr_value _ _ _ j).trans (vals_at m c hS j)) (fun j => (tableArr_position _ _ _ j).trans (poss_toInt m c hS j))
    _ (fun _ => rfl) (fun k r => ((tableArr_box _ _ _ _ k).trans (row_at m c hS _ k)).symm) (fun _ => rfl) (place_lt m c hS) (span_laid _ _ rfl)
theorem kernel_scores : (dats m 0 c).arrAt 5 cfg0.N = fun y => (cand (arg0 m c) (arg1 m c) (arg2 m c) (arg3 m c) hS).outScore (y 0).val :=
  call_scores m c _ _ (place_injective _ _ _ hS) _ _ _ _ (in_v61 m c) (in_v62 m c) (in_v63 m c) (in_v64 m c) (inputs m c hS).1 (inputs m c hS).2
    (fun j => (tableArr_value _ _ _ j).trans (vals_at m c hS j)) (fun j => (tableArr_position _ _ _ j).trans (poss_toInt m c hS j))
    _ (fun _ => rfl) (fun k r => ((tableArr_box _ _ _ _ k).trans (row_at m c hS _ k)).symm) (fun _ => rfl) (place_lt m c hS) (span_laid _ _ rfl)
theorem kernel_classes : (dats m 0 c).arrAt 6 cfg0.N = fun y => (cand (arg0 m c) (arg1 m c) (arg2 m c) (arg3 m c) hS).outClass (y 0).val :=
  call_classes m c _ _ (place_injective _ _ _ hS) _ _ _ _ (in_v61 m c) (in_v62 m c) (in_v63 m c) (in_v64 m c) (inputs m c hS).1 (inputs m c hS).2
    (fun j => (tableArr_value _ _ _ j).trans (vals_at m c hS j)) (fun j => (tableArr_position _ _ _ j).trans (poss_toInt m c hS j))
    _ (fun _ => rfl) (fun k r => ((tableArr_box _ _ _ _ k).trans (row_at m c hS _ k)).symm) (fun _ => rfl) (place_lt m c hS) (span_laid _ _ rfl)
theorem kernel_count : (dats m 0 c).arrAt 7 cfg0.N = fun _ => BitVec.ofNat 32 ((cand (arg0 m c) (arg1 m c) (arg2 m c) (arg3 m c) hS).count 300) :=
  call_count m c _ _ (place_injective _ _ _ hS) _ _ _ _ (in_v61 m c) (in_v62 m c) (in_v63 m c) (in_v64 m c) (inputs m c hS).1 (inputs m c hS).2
    (fun j => (tableArr_value _ _ _ j).trans (vals_at m c hS j)) (fun j => (tableArr_position _ _ _ j).trans (poss_toInt m c hS j))
    _ (fun _ => rfl) (fun k r => ((tableArr_box _ _ _ _ k).trans (row_at m c hS _ k)).symm) (fun _ => rfl) (place_lt m c hS) (span_laid _ _ rfl)
end Inputs

end Cert.Nms
end
-- ==== Proof.TopK.lean ====
/- The reference's top-k: a stable sort by the key alone is the sort by key then position, so its first entries are the
   entries listed by rank. -/
module

public import proofs.«01_k».proof.Proof.Order
public import Idealize.ShloMosaic.Lib.SortPrefix
public import Idealize.ShloMosaic.Lib.Pointwise
public import Idealize.ShloMosaic.PureOps.Ideal

@[expose] public section

noncomputable section

namespace Cert.Nms

open Idealize.ShloMosaic

/-- Two comparisons that agree on later against earlier sort an increasing list alike. -/
theorem stableSort_of_agree {n : ℕ} (R R' : Fin n → Fin n → Bool) (h : ∀ a b, a < b → R b a = R' b a) :
    ∀ l : List (Fin n), l.Pairwise (· < ·) → stableSort R l = stableSort R' l
  | [], _ => rfl
  | a :: l, hl => by
    obtain ⟨ha, hl'⟩ := List.pairwise_cons.1 hl
    show insertBefore R a (stableSort R l) = insertBefore R' a (stableSort R' l)
    rw [← stableSort_of_agree R R' h l hl']
    exact insertBefore_congr R R' a _ fun b hb => h a b (ha b ((perm_stableSort R l).mem_iff.1 hb))

/-- So the sorted positions agree. -/
theorem sortedFrom_of_agree {n : ℕ} (R R' : Fin n → Fin n → Bool) (h : ∀ a b, a < b → R b a = R' b a) :
    sortedFrom R = sortedFrom R' := by
  have e : sortPositions n R = sortPositions n R' := stableSort_of_agree R R' h _ (List.pairwise_lt_finRange n)
  funext k
  unfold sortedFrom
  simp only [List.get_eq_getElem, e]
  rfl

open Classical in
/-- Higher score first, earlier position first among equals, as a comparison. -/
def beforeB {n : ℕ} (F : Fin n → EReal) (i j : Fin n) : Bool := decide (Before F (fun p => p.val) i j)

open Classical in
theorem beforeB_total {n : ℕ} (F : Fin n → EReal) : StrictTotalBefore (beforeB F) where
  irrefl a := decide_eq_false (Before.irrefl F _ a)
  trans a b c h h' := decide_eq_true (Before.trans F _ a b c (of_decide_eq_true h) (of_decide_eq_true h'))
  total a b h := (Before.total F (fun p : Fin n => p.val) (fun _ _ e => Fin.ext e) a b h).imp (fun h => decide_eq_true h) (fun h => decide_eq_true h)

variable {n k : ℕ} (x : FVec Ideal (⟨1, ![n]⟩ : Shape) .f32)
  (h : (⟨1, ![n]⟩ : Shape).Slices (fun _ => 0) (⟨1, ![k]⟩ : Shape)) (hk : k ≤ n)

/-- The comparison the top-k sorts by. -/
def keyB (F : Fin n → EReal) (p q : Fin n) : Bool := FloatOps.cmpfTotal (F := Ideal) (φ := .f32) .gt (F p) (F q) == 1#1

theorem keyB_iff (F : Fin n → EReal) (p q : Fin n) : keyB F p q = decide (F q < F p) := by
  unfold keyB
  show (BitVec.ofBool (decide (F q < F p)) == 1#1) = _
  cases decide (F q < F p) <;> rfl

theorem keyB_agree (F : Fin n → EReal) (a b : Fin n) (hab : a < b) : keyB F b a = beforeB F b a := by
  rw [keyB_iff]
  unfold beforeB
  refine decide_eq_decide.2 ⟨fun h => Or.inl h, fun h => h.resolve_right fun h2 => ?_⟩
  exact absurd h2.2 (not_lt.2 (le_of_lt hab))

theorem along_ix1 (j : (⟨1, ![n]⟩ : Shape).Idx) (p : Fin n) : j.along (0 : Fin 1) p = ix1 p := by
  funext a
  obtain rfl : a = 0 := Subsingleton.elim _ _
  exact Function.update_self ..

theorem topK_from (r : Fin k) :
    (Host.topK (⟨1, ![k]⟩ : Shape) 0 (FloatOps.cmpfTotal .gt) x h).1 (ix1 r)
      = x (ix1 (sortedFrom (keyB fun p => x (ix1 p)) (r.castLE hk)))
    ∧ (Host.topK (⟨1, ![k]⟩ : Shape) 0 (FloatOps.cmpfTotal .gt) x h).2 (ix1 r)
      = BitVec.ofNat 32 (sortedFrom (keyB fun p => x (ix1 p)) (r.castLE hk)).val := by
  have e : ∀ j : (⟨1, ![n]⟩ : Shape).Idx, j (0 : Fin 1) = r.castLE hk → sortedFrom (fun p p' : Fin n =>
      FloatOps.cmpfTotal (F := Ideal) (φ := .f32) .gt (x (j.along (0 : Fin 1) p)) (x (j.along (0 : Fin 1) p')) == 1#1) (j (0 : Fin 1))
        = sortedFrom (keyB fun p => x (ix1 p)) (r.castLE hk) := by
    intro j hj
    rw [hj]
    refine congrArg (fun B => sortedFrom B (r.castLE hk)) (funext fun p => funext fun p' => ?_)
    rw [along_ix1, along_ix1]
    rfl
  have hs := fun j hj => congrArg (fun p : Fin n => (ix1 p : (⟨1, ![n]⟩ : Shape).Idx)) (e j hj)
  exact ⟨congrArg x ((along_ix1 _ _).trans (hs _ (Fin.ext (Nat.zero_add _)))),
    congrArg (fun i : (⟨1, ![n]⟩ : Shape).Idx => BitVec.ofNat 32 (i (0 : Fin 1)).val) ((along_ix1 _ _).trans (hs _ (Fin.ext (Nat.zero_add _))))⟩

include hk in
/-- The top-k lists the entries `σ` when `σ` lists them in order and nobody left out comes before them. -/
theorem topK_at (σ : Fin k → Fin n) (hinj : Function.Injective σ)
    (hord : ∀ i j : Fin k, i < j → ¬ Before (fun p => x (ix1 p)) (fun p => p.val) (σ j) (σ i))
    (hdom : ∀ (i : Fin k) (p : Fin n), (∀ j, σ j ≠ p) → ¬ Before (fun p => x (ix1 p)) (fun p => p.val) p (σ i)) (r : Fin k) :
    (Host.topK (⟨1, ![k]⟩ : Shape) 0 (FloatOps.cmpfTotal .gt) x h).1 (ix1 r) = x (ix1 (σ r))
    ∧ (Host.topK (⟨1, ![k]⟩ : Shape) 0 (FloatOps.cmpfTotal .gt) x h).2 (ix1 r) = BitVec.ofNat 32 (σ r).val := by
  classical
  have e : sortedFrom (keyB fun p => x (ix1 p)) (r.castLE hk) = σ r := by
    rw [sortedFrom_of_agree _ _ (keyB_agree fun p => x (ix1 p))]
    exact (beforeB_total _).sortedFrom_eq_of_prefix hk σ hinj (fun i j hij => decide_eq_false (hord i j hij))
      (fun i p hp => decide_eq_false (hdom i p hp)) r
  have ht := topK_from x h hk r
  rw [e] at ht
  exact ht

end Cert.Nms
end
-- ==== Proof.Chosen.lean ====
/- The selection by the pivot and the cut takes with a position everyone who comes before it; so the selected positions by
   falling score are the first of all positions. The precondition counts them. -/
module

public import proofs.«01_k».proof.Proof.KernelValue
public import proofs.«01_k».proof.Proof.TopK
public import proofs.«01_k».proof.Pre_selects_k

@[expose] public section

set_option maxRecDepth 16384

noncomputable section

namespace Cert.Nms

open Cert.KernelIdeal Cert.KernelIdeal.Gen
open Idealize.ShloMosaic Idealize.ShloMosaic.TcCoe

section Member
variable (a2 : FVec Ideal S1 .f32) (a3 : IVec S1 32) (x : FVec Ideal S1600000 .f32)

/-- A position is selected when its value is above the pivot, or equal to it before the cut. -/
def Taken (v c : EReal) (p : ℕ) (k : ℤ) : Prop := c < v ∨ (v = c ∧ (p : ℤ) < k)

theorem sel_word (p : Fin 1600000) : selArr a2 a3 x (ix1 p)
    = IntOp.ori (Ideal.cmp .ogt (x (ix1 p)) (a2 (ix1 0))) (IntOp.andi (Ideal.cmp .oeq (x (ix1 p)) (a2 (ix1 0)))
        (IntOp.cmpi .slt (BitVec.ofNat 32 p.val) (a3 (ix1 0)))) := by
  unfold selArr
  pointwise

theorem ofBool_word (a b c : Bool) : IntOp.ori (BitVec.ofBool a) (IntOp.andi (BitVec.ofBool b) (BitVec.ofBool c)) = BitVec.ofBool (a || (b && c)) := by
  revert a b c; decide

theorem sel_iff (p : Fin 1600000) : selArr a2 a3 x (ix1 p) = 1#1 ↔ Taken (x (ix1 p)) (a2 (ix1 0)) p.val (a3 (ix1 0)).toInt := by
  have ht := StableHlo.Predicate.toInt_ofNat_small p.val (lt_trans p.isLt (by decide))
  have e := (sel_word a2 a3 x p).trans (ofBool_word (decide (a2 (ix1 0) < x (ix1 p))) (decide (x (ix1 p) = a2 (ix1 0)))
    ((BitVec.ofNat 32 p.val).slt (a3 (ix1 0))))
  rw [e, BitVec.slt, ht]
  unfold Taken
  generalize (a3 (ix1 0)).toInt = k
  have hb : ∀ b : Bool, BitVec.ofBool b = 1#1 ↔ b = true := by decide
  rw [hb, Bool.or_eq_true, Bool.and_eq_true, decide_eq_true_iff, decide_eq_true_iff, decide_eq_true_iff]

/-- Whoever comes before a selected position is selected. -/
theorem Taken.up {v v' c : EReal} {p p' : ℕ} {k : ℤ} (h : Taken v c p k) (hb : v < v' ∨ (v' = v ∧ p' < p)) : Taken v' c p' k := by
  rcases h with h | ⟨h, h2⟩ <;> rcases hb with hb | ⟨hb, hb2⟩
  · exact .inl (h.trans hb)
  · exact .inl (hb ▸ h)
  · exact .inl (h ▸ hb)
  · exact .inr ⟨hb.trans h, by omega⟩
end Member

section Order
variable (a1 : FVec Ideal S1x20000x80 .f32) (a2 : FVec Ideal S1 .f32) (a3 : IVec S1 32) (hS : (picked a1 a2 a3).card = 4096)

theorem picked_up (i j : Fin 1600000) (hj : j ∈ picked a1 a2 a3) (h : Before (score a1) (fun p => p.val) i j) : i ∈ picked a1 a2 a3 :=
  (mem_chosen _ i).2 ((sel_iff a2 a3 _ i).2 (Taken.up ((sel_iff a2 a3 _ j).1 ((mem_chosen _ j).1 hj)) h))

theorem order_injective : Function.Injective (order a1 a2 a3 hS) := fun _ _ h =>
  Equiv.injective _ ((pos (picked a1 a2 a3) hS).injective h)

/-- A candidate further down the list does not come before one further up. -/
theorem order_sorted (i j : Fin 4096) (hij : i < j) : ¬ Before (score a1) (fun p => p.val) (order a1 a2 a3 hS j) (order a1 a2 a3 hS i) := by
  intro h
  have hg := place_injective a1 a2 a3 hS
  have hr := rank_lt_of_before (fun l => score a1 (place a1 a2 a3 hS l)) (fun l => (place a1 a2 a3 hS l).val)
    ((rankE (fun l => score a1 (place a1 a2 a3 hS l)) (fun l => (place a1 a2 a3 hS l).val) hg).symm j)
    ((rankE (fun l => score a1 (place a1 a2 a3 hS l)) (fun l => (place a1 a2 a3 hS l).val) hg).symm i) h
  rw [← rankE_val _ _ hg, ← rankE_val _ _ hg, Equiv.apply_symm_apply, Equiv.apply_symm_apply] at hr
  exact absurd hr (not_lt.2 (le_of_lt hij))

/-- Nobody left out comes before a candidate. -/
theorem order_first (i : Fin 4096) (p : Fin 1600000) (hp : ∀ j, order a1 a2 a3 hS j ≠ p) :
    ¬ Before (score a1) (fun p => p.val) p (order a1 a2 a3 hS i) := by
  intro h
  obtain ⟨l, hl⟩ := exists_pos (picked a1 a2 a3) hS (picked_up a1 a2 a3 p _ (pos_mem (picked a1 a2 a3) hS _) h)
  refine hp (rankE (fun l => score a1 (place a1 a2 a3 hS l)) (fun l => (place a1 a2 a3 hS l).val) (place_injective a1 a2 a3 hS) l) ?_
  unfold order
  rw [Equiv.symm_apply_apply]
  exact hl
end Order

/-- The reference's top-k lists the same positions in the same order. -/
theorem topK_order (a1 : FVec Ideal S1x20000x80 .f32) (a2 : FVec Ideal S1 .f32) (a3 : IVec S1 32) (hS : (picked a1 a2 a3).card = 4096)
    (h : S1600000.Slices (fun _ => 0) S4096) (r : Fin 4096) :
    (Host.topK S4096 0 (FloatOps.cmpfTotal .gt) (flatArr a1) h).1 (ix1 r) = score a1 (order a1 a2 a3 hS r)
    ∧ (Host.topK S4096 0 (FloatOps.cmpfTotal .gt) (flatArr a1) h).2 (ix1 r) = BitVec.ofNat 32 (order a1 a2 a3 hS r).val :=
  topK_at (flatArr a1) h (by decide) (order a1 a2 a3 hS) (order_injective a1 a2 a3 hS) (order_sorted a1 a2 a3 hS) (order_first a1 a2 a3 hS) r

section Pre

/-- The side conditions the precondition's operations take. -/
theorem pre_facts : Cert.Pre_selects_k.Facts where
  shapeCasts_S1x20000x80_S1600000 := by decide
  bcast_S_S1600000 := by decide
  bcast_S1_S1600000_0 := by decide
  natLt_1_32 := by decide
  reducesTo_S1600000_S_d0 := by decide
  h_S_ := by decide
  bcast_S_S1 := by decide

/-- The selection as the precondition writes it. -/
theorem pre_sel (a2 : FVec Ideal S1 .f32) (a3 : IVec S1 32)
    (h2 : S1.BroadcastsInDim S1600000 (![0] : Fin 1 → Fin S1600000.rank)) (x : FVec Ideal S1600000 .f32) :
    ori (cmpf (F := Ideal) .ogt x (broadcastInDim S1600000 ![0] h2 a2))
      (andi (cmpf (F := Ideal) .oeq x (broadcastInDim S1600000 ![0] h2 a2)) (cmpi .slt (iotaInDim S1600000 32 0) (broadcastInDim S1600000 ![0] h2 a3)))
      = selArr a2 a3 x := by
  have key : ∀ p : Fin 1600000, ori (cmpf (F := Ideal) .ogt x (broadcastInDim S1600000 ![0] h2 a2))
      (andi (cmpf (F := Ideal) .oeq x (broadcastInDim S1600000 ![0] h2 a2)) (cmpi .slt (iotaInDim S1600000 32 0) (broadcastInDim S1600000 ![0] h2 a3))) (ix1 p)
      = selArr a2 a3 x (ix1 p) := fun p => by
    refine Eq.trans ?_ (sel_word a2 a3 x p).symm
    pointwise
  funext i
  obtain ⟨p, hp⟩ : ∃ p : Fin 1600000, i = ix1 p := ⟨i 0, eq_ix1 i⟩
  subst hp
  exact key p

/-- One reshape is two. -/
theorem pre_raw (a1 : FVec Ideal S1x20000x80 .f32) (h1 : S1x20000x80.ShapeCasts S1600000) : shapeCast S1600000 a1 h1 = rawArr a1 :=
  (shapeCast_comp a1 shapeCasts_S1x20000x80_S20000x80 shapeCasts_S20000x80_S1600000).symm

theorem pre_flat (a1 : FVec Ideal S1x20000x80 .f32) (h1 : S1x20000x80.ShapeCasts S1600000)
    (h2 : S_.BroadcastsInDim S1600000 (![] : Fin 0 → Fin S1600000.rank)) :
    select (cmpf (F := Ideal) .oge (shapeCast S1600000 a1 h1) (broadcastInDim S1600000 ![] h2 (constant (F := Ideal) S_ .f32 0x3D4CCCCD#32))) (shapeCast S1600000 a1 h1)
      (broadcastInDim S1600000 ![] h2 (constant (F := Ideal) S_ .f32 0xBF800000#32)) = flatArr a1 := by
  rw [pre_raw]
  rfl

/-- Adding up the selection's bits counts the selected positions. -/
theorem sum_chosen (v : IVec S1600000 1) (h : S1600000.ReducesTo [0] S_) (hu : 0 < S_.numel) (j : S_.Idx) (hw : 1 < 32) :
    Host.reduce IntOp.addi (extui 32 v hw) (constantI S_ 32 0#32) h hu j = BitVec.ofNat 32 (chosen v).card := by
  refine (Host.reduce_eq_fold IntOp.addi _ _ h hu j).trans ?_
  have hj : ∀ i : S1600000.Idx, h.drop i = j := fun i => funext fun d => d.elim0
  rw [Finset.filter_true_of_mem (fun i _ => hj i)]
  refine (IndicatorCount.fold_addi_setWidth_eq_card v Finset.univ).trans ?_
  refine congrArg (BitVec.ofNat 32) ?_
  refine Finset.card_bij' (fun i _ => (i 0 : Fin 1600000)) (fun p _ => ix1 p) ?_ ?_ ?_ ?_
  · intro i hi
    exact (mem_chosen v (i 0)).2 ((congrArg v (eq_ix1 i)).symm.trans (Finset.mem_filter.1 hi).2)
  · intro p hp
    exact Finset.mem_filter.2 ⟨Finset.mem_univ _, (mem_chosen v p).1 hp⟩
  · intro i _
    exact (eq_ix1 i).symm
  · intro p _
    rfl

/-- The precondition, with its steps named. -/
theorem pre_word (a1 : FVec Ideal S1x20000x80 .f32) (v : IVec S1600000 1) (h : S1600000.ReducesTo [0] S_) (hu : 0 < S_.numel) (hw : 1 < 32)
    (hb : S_.BroadcastsInDim S1 (![] : Fin 0 → Fin S1.rank))
    (e : cmpi .eq (broadcastInDim S1 ![] hb (Host.reduce IntOp.addi (extui 32 v hw) (constantI S_ 32 0#32) h hu)) (broadcastInDim S1 ![] hb (constantI S_ 32 4096#32))
      = fun _ => 1#1) : (chosen v).card = 4096 := by
  have e0 := congrFun e (ix1 0)
  have hs := fun j => sum_chosen v h hu j hw
  generalize Host.reduce IntOp.addi (extui 32 v hw) (constantI S_ 32 0#32) h hu = y at e0 hs
  have hy : y = fun _ => BitVec.ofNat 32 (chosen v).card := funext hs
  subst hy
  have e1 : IntOp.cmpi .eq (BitVec.ofNat 32 (chosen v).card) 4096#32 = 1#1 := e0
  have hc : (chosen v).card ≤ 1600000 := (Finset.card_le_univ _).trans_eq (Fintype.card_fin _)
  have e2 : BitVec.ofNat 32 (chosen v).card = 4096#32 := by
    by_contra hne
    have : IntOp.cmpi .eq (BitVec.ofNat 32 (chosen v).card) 4096#32 = 0#1 := by
      show BitVec.ofBool (BitVec.ofNat 32 (chosen v).card == 4096#32) = 0#1
      rw [beq_eq_false_iff_ne.2 hne]; rfl
    rw [this] at e1
    exact absurd e1 (by decide)
  have e3 := congrArg BitVec.toNat e2
  rw [BitVec.toNat_ofNat, Nat.mod_eq_of_lt (lt_of_le_of_lt hc (by norm_num))] at e3
  exact e3

/-- The precondition counts the selected positions. -/
theorem card_of_pre (hF : Cert.Pre_selects_k.Facts) (a0 : FVec Ideal S1x20000x4 .f32) (a1 : FVec Ideal S1x20000x80 .f32) (a2 : FVec Ideal S1 .f32) (a3 : IVec S1 32)
    (h : Cert.Pre_selects_k.fn (F := Ideal) a0 a1 a2 a3 = fun _ => 1#1) : (picked a1 a2 a3).card = 4096 := by
  unfold Cert.Pre_selects_k.fn at h
  unfold picked
  refine pre_word a1 _ hF.reducesTo_S1600000_S_d0 hF.h_S_ hF.natLt_1_32 hF.bcast_S_S1 ?_
  rw [← pre_sel a2 a3 hF.bcast_S1_S1600000_0, ← pre_flat a1 hF.shapeCasts_S1x20000x80_S1600000 hF.bcast_S_S1600000]
  exact h
end Pre

end Cert.Nms
end
-- ==== Proof.RefInit.lean ====
/- What the reference holds when its loop starts: its top-k lists the candidates, with their boxes and classes. -/
module

public import proofs.«01_k».proof.Proof.Chosen
public import proofs.«01_k».proof.Proof.Gen.ReferenceIdeal.Step

@[expose] public section

set_option maxRecDepth 16384

noncomputable section

namespace Cert.Nms

open Cert.ReferenceIdeal Cert.ReferenceIdeal.Gen Cert.ReferenceIdeal.Step
open Idealize.ShloMosaic Idealize.ShloMosaic.TcCoe Idealize.ShloMosaic.Routing

section Arrays
variable (idx : IVec S4096 32) (o : Fin 4096 → Fin 1600000) (h : ∀ r, idx (ix1 r) = BitVec.ofNat 32 (o r).val) (r : Fin 4096)

include h in
/-- The class column: the remainder by 80. -/
theorem class_at : Host.remsi idx (broadcastInDim S4096 ![] bcast_S_S4096 (constantI S_ 32 80#32)) (ix1 r) = BitVec.ofNat 32 ((o r).val % 80) := by
  refine Eq.trans (b := IntOp.remsi .host (idx (ix1 r)) (BitVec.ofNat 32 80)) ?_ ?_
  · pointwise
  · rw [h]
    exact remsi_word _ (lt_trans (o r).isLt (by decide)) (by decide) (by decide)

include h in
/-- The box column: the quotient by 80. -/
theorem boxCol_at : broadcastInDim S4096x1 ![0] bcast_S4096_S4096x1_0
    (Host.divsi idx (broadcastInDim S4096 ![] bcast_S_S4096 (constantI S_ 32 80#32))) (ix2 r (0 : Fin 1)) = BitVec.ofNat 32 (boxNo (o r)).val := by
  refine Eq.trans (b := IntOp.divsi .host (idx (ix1 r)) (BitVec.ofNat 32 80)) ?_ ?_
  · pointwise
  · rw [h]
    exact divsi_word _ (lt_trans (o r).isLt (by decide)) (by decide) (by decide)

/-- The rows of boxes taken. -/
theorem boxRow_at (v0 : FVec Ideal S20000x4 .f32) (x : IVec S4096x1 32) (b : Fin 20000) (hb : x (ix2 r (0 : Fin 1)) = BitVec.ofNat 32 b.val) (k : Fin 4) :
    Host.gather gather_S20000x4_S4096x1_S4096x4_1_0_n_n_0_1_14 v0 x (ix2 r k) = v0 (ix2 b k) :=
  gather_row gather_S20000x4_S4096x1_S4096x4_1_0_n_n_0_1_14 rfl rfl rfl rfl rfl v0 x r k b hb (by decide)

/-- The largest coordinate. -/
theorem top_at (b : FVec Ideal S20000x4 .f32) (w : FVec Ideal S_ .f32) (hh : S20000x4.ReducesTo [0, 1] S_) (hu : 0 < S_.numel) (j : S_.Idx) :
    Host.reduce (FloatOps.maximumf (F := Ideal) (φ := .f32)) b w hh hu j = Finset.univ.fold max (w j : EReal) (fun i => (b i : EReal)) := by
  refine (Host.reduce_eq_fold (FloatOps.maximumf (F := Ideal) (φ := .f32)) b w hh hu j).trans ?_
  have hj : ∀ i : S20000x4.Idx, hh.drop i = j := fun i => funext fun d => d.elim0
  rw [Finset.filter_true_of_mem (fun i _ => hj i), show Shape.Idx.first hu = j from funext fun d => d.elim0]
  rfl

/-- The smallest coordinate. -/
theorem low_at (b : FVec Ideal S20000x4 .f32) (w : FVec Ideal S_ .f32) (hh : S20000x4.ReducesTo [0, 1] S_) (hu : 0 < S_.numel) (j : S_.Idx) :
    Host.reduce (FloatOps.minimumf (F := Ideal) (φ := .f32)) b w hh hu j = Finset.univ.fold min (w j : EReal) (fun i => (b i : EReal)) := by
  refine (Host.reduce_eq_fold (FloatOps.minimumf (F := Ideal) (φ := .f32)) b w hh hu j).trans ?_
  have hj : ∀ i : S20000x4.Idx, hh.drop i = j := fun i => funext fun d => d.elim0
  rw [Finset.filter_true_of_mem (fun i _ => hj i), show Shape.Idx.first hu = j from funext fun d => d.elim0]
  rfl

/-- The side by which a class is moved. -/
theorem span_at (b : FVec Ideal S20000x4 .f32) (j : S_.Idx) :
    addf (F := Ideal) (subf (F := Ideal) (Host.reduce (FloatOps.maximumf (F := Ideal) (φ := .f32)) b (constant (F := Ideal) S_ .f32 0xFF800000#32) reducesTo_S20000x4_S_d0_1 h_S_)
      (Host.reduce (FloatOps.minimumf (F := Ideal) (φ := .f32)) b (constant (F := Ideal) S_ .f32 0x7F800000#32) reducesTo_S20000x4_S_d0_1 h_S_))
      (constant (F := Ideal) S_ .f32 0x3F800000#32) j = spanOf b := by
  have e1 := top_at b (constant (F := Ideal) S_ .f32 0xFF800000#32) reducesTo_S20000x4_S_d0_1 h_S_ j
  have e2 := low_at b (constant (F := Ideal) S_ .f32 0x7F800000#32) reducesTo_S20000x4_S_d0_1 h_S_ j
  have e3 := Ideal.ofBits_one_f32
  unfold spanOf
  rw [← e3]
  have e1' : Host.reduce (FloatOps.maximumf (F := Ideal) (φ := .f32)) b (constant (F := Ideal) S_ .f32 0xFF800000#32) reducesTo_S20000x4_S_d0_1 h_S_ j
    = Finset.univ.fold max (Ideal.ofBits FTy.f32 4286578688#32) (fun i => (b i : EReal)) := e1
  have e2' : Host.reduce (FloatOps.minimumf (F := Ideal) (φ := .f32)) b (constant (F := Ideal) S_ .f32 0x7F800000#32) reducesTo_S20000x4_S_d0_1 h_S_ j
    = Finset.univ.fold min (Ideal.ofBits FTy.f32 2139095040#32) (fun i => (b i : EReal)) := e2
  generalize Host.reduce (FloatOps.maximumf (F := Ideal) (φ := .f32)) b _ _ _ = x at e1' ⊢
  generalize Host.reduce (FloatOps.minimumf (F := Ideal) (φ := .f32)) b _ _ _ = y at e2' ⊢
  rw [← e1', ← e2']
  rfl

/-- A candidate's box moved by its class. -/
theorem moved_at (bx : FVec Ideal S4096x4 .f32) (cl : IVec S4096 32) (sp : FVec Ideal S_ .f32) (k : Fin 4) (j : S_.Idx) :
    addf (F := Ideal) bx (broadcastInDim S4096x4 ![0, 1] bcast_S4096x1_S4096x4_0_1 (broadcastInDim S4096x1 ![0] bcast_S4096_S4096x1_0
      (mulf (F := Ideal) (sitofp .f32 cl) (broadcastInDim S4096 ![] bcast_S_S4096 sp)))) (ix2 r k)
      = (bx (ix2 r k) : EReal) + (((cl (ix1 r)).toInt : ℝ) : EReal) * (sp j : EReal) := by
  rw [show j = ix0 from funext fun d => d.elim0]
  pointwise
  rfl

/-- The candidates with a positive score. -/
theorem positive_at (v : FVec Ideal S4096 .f32) (w : BitVec 32) (hw : Ideal.ofBits FTy.f32 w = 0) :
    cmpf (F := Ideal) .ogt v (broadcastInDim S4096 ![] bcast_S_S4096 (constant (F := Ideal) S_ .f32 w)) (ix1 r) = BitVec.ofBool (decide ((0 : EReal) < v (ix1 r))) := by
  refine Eq.trans (b := Ideal.cmp .ogt (v (ix1 r)) (Ideal.ofBits FTy.f32 w)) ?_ ?_
  · pointwise
  · rw [hw]; rfl
end Arrays

/-- The arrays the loop only reads hold the candidates. -/
structure Stands (s : State Ideal) (d : Cand) : Prop where
  score : ∀ r, s.main_v27_0 (ix1 r) = d.s r
  box : ∀ r k, s.main_v27_1 (ix2 r k) = d.b k r
  moved : ∀ r k, s.main_v27_2 (ix2 r k) = d.off k r
  cls : ∀ r, s.main_v27_3 (ix1 r) = BitVec.ofNat 32 (d.c r)

section Init
variable (a0 : FVec Ideal S1x20000x4 .f32) (a1 : FVec Ideal S1x20000x80 .f32) (a2 : FVec Ideal S1 .f32) (a3 : IVec S1 32) (hS : (picked a1 a2 a3).card = 4096)

theorem values_at (r : Fin 4096) : A_main_values (F := Ideal) a0 a1 (ix1 r) = score a1 (order a1 a2 a3 hS r) :=
  (topK_order a1 a2 a3 hS sliceFits_S1600000_S4096 r).1
theorem indices_at (r : Fin 4096) : A_main_indices (F := Ideal) a0 a1 (ix1 r) = BitVec.ofNat 32 (order a1 a2 a3 hS r).val :=
  (topK_order a1 a2 a3 hS sliceFits_S1600000_S4096 r).2
theorem v8_at (r : Fin 4096) (k : Fin 4) : A_main_v8 (F := Ideal) a0 a1 (ix2 r k) = (cand a0 a1 a2 a3 hS).b k r :=
  boxRow_at r (boxArr a0) _ _ (boxCol_at _ (order a1 a2 a3 hS) (indices_at a0 a1 a2 a3 hS) r) k
theorem v10_at (r : Fin 4096) : A_main_v10 (F := Ideal) a0 a1 (ix1 r) = BitVec.ofNat 32 ((cand a0 a1 a2 a3 hS).c r) :=
  class_at _ (order a1 a2 a3 hS) (indices_at a0 a1 a2 a3 hS) r
theorem v14_at (j : S_.Idx) : A_main_v14 (F := Ideal) a0 a1 j = spanOf (boxArr a0) := by
  exact span_at (boxArr a0) j
theorem v20_at (r : Fin 4096) (k : Fin 4) : A_main_v20 (F := Ideal) a0 a1 (ix2 r k) = (cand a0 a1 a2 a3 hS).off k r := by
  refine (moved_at r (A_main_v8 (F := Ideal) a0 a1) (A_main_v10 (F := Ideal) a0 a1) (A_main_v14 (F := Ideal) a0 a1) k ix0).trans ?_
  rw [v8_at a0 a1 a2 a3 hS, v10_at a0 a1 a2 a3 hS, v14_at, StableHlo.Predicate.toInt_ofNat_small]
  · rfl
  · exact lt_of_lt_of_le (Nat.mod_lt _ (by decide)) (by decide)
theorem v22_at (r : Fin 4096) : A_main_v22 (F := Ideal) a0 a1 (ix1 r) = BitVec.ofBool ((cand a0 a1 a2 a3 hS).valid 0 r) := by
  refine (positive_at r (A_main_values (F := Ideal) a0 a1) 0x00000000#32 Ideal.ofBits_zero_f32).trans ?_
  rw [values_at a0 a1 a2 a3 hS]
  rfl

theorem init_0 : (init (F := Ideal) a0 a1).main_v27_0 = A_main_values (F := Ideal) a0 a1 := by simp only [init]
theorem init_1 : (init (F := Ideal) a0 a1).main_v27_1 = A_main_v8 (F := Ideal) a0 a1 := by simp only [init]
theorem init_2 : (init (F := Ideal) a0 a1).main_v27_2 = A_main_v20 (F := Ideal) a0 a1 := by simp only [init]
theorem init_3 : (init (F := Ideal) a0 a1).main_v27_3 = A_main_v10 (F := Ideal) a0 a1 := by simp only [init]
theorem init_5 : (init (F := Ideal) a0 a1).main_v27_5 = A_main_v22 (F := Ideal) a0 a1 := by simp only [init]

/-- The reference's loop starts with the candidates. -/
theorem init_stands : Stands (init (F := Ideal) a0 a1) (cand a0 a1 a2 a3 hS) where
  score r := (congrFun (init_0 a0 a1) (ix1 r)).trans (values_at a0 a1 a2 a3 hS r)
  box r k := (congrFun (init_1 a0 a1) (ix2 r k)).trans (v8_at a0 a1 a2 a3 hS r k)
  moved r k := (congrFun (init_2 a0 a1) (ix2 r k)).trans (v20_at a0 a1 a2 a3 hS r k)
  cls r := (congrFun (init_3 a0 a1) (ix1 r)).trans (v10_at a0 a1 a2 a3 hS r)
/-- The candidates it starts with are those with a positive score. -/
theorem init_valid (r : Fin 4096) : (init (F := Ideal) a0 a1).main_v27_5 (ix1 r) = BitVec.ofBool ((cand a0 a1 a2 a3 hS).valid 0 r) :=
  (congrFun (init_5 a0 a1) (ix1 r)).trans (v22_at a0 a1 a2 a3 hS r)
end Init

/-- A candidate further down scores no more. -/
theorem cand_falling (a0 : FVec Ideal S1x20000x4 .f32) (a1 : FVec Ideal S1x20000x80 .f32) (a2 : FVec Ideal S1 .f32) (a3 : IVec S1 32) (hS : (picked a1 a2 a3).card = 4096)
    (i r : Fin 4096) (h : i ≤ r) : (cand a0 a1 a2 a3 hS).s r ≤ (cand a0 a1 a2 a3 hS).s i := by
  rcases h.eq_or_lt with rfl | h
  · exact le_refl _
  · exact not_lt.1 fun hlt => order_sorted a1 a2 a3 hS i r h (.inl hlt)

end Cert.Nms
end
-- ==== Proof.Best.lean ====
/- The first largest entry of a list, as the reference finds it: the smallest position among the entries equal to the maximum. -/
module

public import proofs.«01_k».proof.Proof.Search
public import proofs.«01_k».proof.Proof.Gen.ReferenceIdeal
public import Idealize.ShloMosaic.Lib.Pointwise
public import Idealize.ShloMosaic.Lib.Routing.Ops

@[expose] public section

set_option maxRecDepth 16384

noncomputable section

namespace Cert.Nms

open Idealize.ShloMosaic Cert.ReferenceIdeal Cert.ReferenceIdeal.Gen

section Reduce
variable {α : Type}

/-- A reduction of a list down to one value goes over all its entries. -/
theorem reduce_all (f : α → α → α) (x : S4096.Idx → α) (w : S_.Idx → α) (h : S4096.ReducesTo [0] S_) (hu : 0 < S_.numel) (j : S_.Idx) :
    ∃ l : List (Fin 4096), (∀ r, r ∈ l) ∧ Host.reduce f x w h hu j = l.foldl (fun a r => f a (x (ix1 r))) (w j) := by
  have hj : ∀ i : S4096.Idx, h.drop i = j := fun i => funext fun d => d.elim0
  refine ⟨((((List.finRange S4096.numel).map S4096.rowMajor.symm).filter fun i => h.drop i = j).map fun i => (i 0 : Fin 4096)), ?_, ?_⟩
  · intro r
    refine List.mem_map.2 ⟨ix1 r, List.mem_filter.2 ⟨List.mem_map.2 ⟨S4096.rowMajor (ix1 r), List.mem_finRange _, Equiv.symm_apply_apply _ _⟩, ?_⟩, rfl⟩
    exact decide_eq_true (hj _)
  · rw [Host.reduce_eq_foldl, show Shape.Idx.first hu = j from funext fun d => d.elim0]
    refine Eq.trans ?_ (List.foldl_map (f := fun i : S4096.Idx => (i 0 : Fin 4096)) (g := fun a r => f a (x (ix1 r)))).symm
    refine congrArg (fun g => List.foldl g (w j) _) (funext fun a => funext fun i => congrArg (f a) (congrArg x (eq_ix1 i)))
end Reduce

/-- The maximum of a list that starts from something no larger. -/
theorem max_all (x : FVec Ideal S4096 .f32) (w : FVec Ideal S_ .f32) (h : S4096.ReducesTo [0] S_) (hu : 0 < S_.numel) (j : S_.Idx) (m : Fin 4096)
    (hw : (w j : EReal) ≤ x (ix1 m)) (hm : ∀ r, (x (ix1 r) : EReal) ≤ x (ix1 m)) :
    Host.reduce (FloatOps.maximumf (F := Ideal) (φ := .f32)) x w h hu j = x (ix1 m) := by
  obtain ⟨l, hl, e⟩ := reduce_all (FloatOps.maximumf (F := Ideal) (φ := .f32)) x w h hu j
  exact e.trans (foldl_max (x (ix1 m)) (fun r => x (ix1 r)) l (w j) hw (fun r _ => hm r) (.inr ⟨m, hl m, rfl⟩))

/-- The least word of a list of positions. -/
theorem min_all (x : IVec S4096 32) (w : IVec S_ 32) (h : S4096.ReducesTo [0] S_) (hu : 0 < S_.numel) (j : S_.Idx) (m : Fin 4096)
    (hw : (x (ix1 m)).toInt ≤ (w j).toInt) (hm : ∀ r, (x (ix1 m)).toInt ≤ (x (ix1 r)).toInt) :
    Host.reduce IntOp.minsi x w h hu j = x (ix1 m) := by
  obtain ⟨l, hl, e⟩ := reduce_all IntOp.minsi x w h hu j
  exact e.trans (foldl_minsi (x (ix1 m)) (fun r => x (ix1 r)) l (w j) hw (fun r _ => hm r) (.inr ⟨m, hl m, rfl⟩))

section Best
variable (x : FVec Ideal S4096 .f32) (top : FVec Ideal S_ .f32)

/-- The positions of the largest entries; 4096 elsewhere. -/
def marks : IVec S4096 32 :=
  select (cmpf (F := Ideal) .oeq x (broadcastInDim S4096 ![] bcast_S_S4096 top)) (iotaInDim S4096 32 0)
    (broadcastInDim S4096 ![] bcast_S_S4096 (constantI S_ 32 4096#32))

theorem marks_at (r : Fin 4096) : marks x top (ix1 r) = if (x (ix1 r) : EReal) = top ix0 then BitVec.ofNat 32 r.val else 4096#32 := by
  have e : marks x top (ix1 r) = Scalar.select (Ideal.cmp .oeq (x (ix1 r)) (top ix0)) (BitVec.ofNat 32 r.val) 4096#32 := by
    unfold marks
    pointwise
  rw [e]
  show Scalar.select (BitVec.ofBool (decide ((x (ix1 r) : EReal) = top ix0))) _ _ = _
  by_cases h : (x (ix1 r) : EReal) = top ix0
  · rw [if_pos h, decide_eq_true h]; rfl
  · rw [if_neg h, decide_eq_false h]; rfl

/-- The smallest marked position is the first largest entry's. -/
theorem first_best (w : IVec S_ 32) (hw : w = constantI S_ 32 2147483647#32) (h : S4096.ReducesTo [0] S_) (hu : 0 < S_.numel) (p : Fin 4096)
    (htop : (top ix0 : EReal) = x (ix1 p)) (hf : ∀ r, r < p → (x (ix1 r) : EReal) ≠ x (ix1 p)) (j : S_.Idx) :
    Host.reduce IntOp.minsi (marks x top) w h hu j = BitVec.ofNat 32 p.val := by
  have ht : ∀ r : Fin 4096, (BitVec.ofNat 32 r.val).toInt = (r.val : Int) := fun r =>
    StableHlo.Predicate.toInt_ofNat_small r.val (lt_trans r.isLt (by decide))
  have hp : marks x top (ix1 p) = BitVec.ofNat 32 p.val := by rw [marks_at, if_pos htop.symm]
  rw [← hp]
  refine min_all (marks x top) w h hu j p ?_ ?_
  · rw [hp, hw, ht]
    have h2 : (p.val : Int) < 4096 := by exact_mod_cast p.isLt
    have e : (constantI S_ 32 2147483647#32 j).toInt = 2147483647 := show (2147483647#32).toInt = 2147483647 by decide
    rw [e]
    omega
  · intro r
    rw [hp, ht, marks_at]
    by_cases hr : (x (ix1 r) : EReal) = top ix0
    · rw [if_pos hr, ht]
      exact_mod_cast not_lt.1 fun hlt => hf r hlt (hr.trans htop)
    · rw [if_neg hr]
      have h2 : (p.val : Int) < 4096 := by exact_mod_cast p.isLt
      have e : (4096#32).toInt = 4096 := by decide
      rw [e]
      omega
end Best

/-- A position read from the front or, negative, from the back. -/
theorem wrapped_at (i : IVec S_ 32) (p : Fin 4096) (hi : i ix0 = BitVec.ofNat 32 p.val) :
    select (cmpi .slt i (constantI S_ 32 0#32)) (addi i (constantI S_ 32 4096#32)) i ix0 = BitVec.ofNat 32 p.val := by
  have e : select (cmpi .slt i (constantI S_ 32 0#32)) (addi i (constantI S_ 32 4096#32)) i ix0
      = Scalar.select (IntOp.cmpi .slt (i ix0) 0#32) (IntOp.addi (i ix0) 4096#32) (i ix0) := by pointwise
  have ht := StableHlo.Predicate.toInt_ofNat_small p.val (lt_trans p.isLt (by decide))
  have hn : (BitVec.ofNat 32 p.val).slt 0#32 = false := by
    rw [BitVec.slt, ht]
    exact decide_eq_false (by show ¬ ((p.val : Int) < 0); omega)
  have hc : IntOp.cmpi .slt (BitVec.ofNat 32 p.val) 0#32 = 0#1 := by
    show BitVec.ofBool ((BitVec.ofNat 32 p.val).slt 0#32) = 0#1
    rw [hn]; rfl
  rw [e, hi, hc]
  rfl

end Cert.Nms
end
-- ==== Proof.Window.lean ====
/- One entry or one row read from an array at a position held in a word, and one written. -/
module

public import proofs.«01_k».proof.Proof.Gen.ReferenceIdeal
public import Idealize.ShloMosaic.Lib.Pointwise

@[expose] public section

set_option maxRecDepth 16384

noncomputable section

namespace Cert.Nms

open Idealize.ShloMosaic Cert.ReferenceIdeal Cert.ReferenceIdeal.Gen

theorem clamped_of {s t : Shape} (ht : t.rank = s.rank) (start : Fin s.rank → Int) (a : Fin s.rank) (k : ℕ) (hk : start a = k)
    (hle : k + t.size (a.cast ht.symm) ≤ s.size a) : Host.clampedStart s t ht start a = k := by
  refine Host.clampedStart_of_le ht start a k hk ?_
  omega

section Read
variable {α : Type}

/-- One entry read. -/
theorem entry_at (x : S4096.Idx → α) (start : Fin 1 → Int) (p : Fin 4096) (hp : start 0 = (p.val : Int)) :
    shapeCast S_ (Host.dynamicSlice S1 x start sliceFits_S4096_S1) shapeCasts_S1_S_ ix0 = x (ix1 p) := by
  have h0 : Host.dynamicSlice S1 x start sliceFits_S4096_S1 (ix1 0) = x (ix1 p) := by
    rw [Host.dynamicSlice_apply]
    refine congrArg x (funext fun a => Fin.ext ?_)
    match a with
    | 0 =>
      show Host.clampedStart S4096 S1 _ start 0 + 0 = p.val
      rw [clamped_of (s := S4096) (t := S1) rfl start 0 p.val hp (Nat.succ_le_of_lt p.isLt)]
      rfl
  refine Eq.trans ?_ h0
  generalize Host.dynamicSlice S1 x start sliceFits_S4096_S1 = y
  pointwise

/-- One row read. -/
theorem row_read (x : S4096x4.Idx → α) (start : Fin 2 → Int) (p : Fin 4096) (hp : start 0 = (p.val : Int)) (h1 : start 1 = 0) (k : Fin 4) :
    shapeCast S4 (Host.dynamicSlice S1x4 x start sliceFits_S4096x4_S1x4) shapeCasts_S1x4_S4 (ix1 k) = x (ix2 p k) := by
  have h0 : Host.dynamicSlice S1x4 x start sliceFits_S4096x4_S1x4 (ix2 0 k) = x (ix2 p k) := by
    rw [Host.dynamicSlice_apply]
    refine congrArg x (funext fun a => Fin.ext ?_)
    match a with
    | 0 =>
      show Host.clampedStart S4096x4 S1x4 _ start 0 + 0 = p.val
      rw [clamped_of (s := S4096x4) (t := S1x4) rfl start 0 p.val hp (Nat.succ_le_of_lt p.isLt)]
      rfl
    | 1 =>
      show Host.clampedStart S4096x4 S1x4 _ start 1 + k.val = k.val
      rw [clamped_of (s := S4096x4) (t := S1x4) rfl start 1 0 h1 (le_refl 4)]
      exact Nat.zero_add _
  refine Eq.trans ?_ h0
  generalize Host.dynamicSlice S1x4 x start sliceFits_S4096x4_S1x4 = y
  pointwise

/-- One entry written. -/
theorem entry_put (x : S300.Idx → α) (u : S1.Idx → α) (start : Fin 1 → Int) (j : ℕ) (hj : j < 300) (hs : start 0 = (j : Int)) (i : Fin 300) :
    Host.dynamicUpdateSlice x u start updateFits_S300_S1 (ix1 i) = if i.val = j then u (ix1 0) else x (ix1 i) := by
  have hc : Host.clampedStart S300 S1 updateFits_S300_S1.1 start 0 = j := clamped_of (s := S300) (t := S1) rfl start 0 j hs (Nat.succ_le_of_lt hj)
  rw [Host.dynamicUpdateSlice_apply]
  split
  · rename_i hin
    have h2 := hin 0
    rw [hc] at h2
    have h3 : j ≤ i.val ∧ i.val < j + 1 := h2
    rw [if_pos (by omega)]
    exact congrArg u (funext fun a => Fin.ext (by
      match a with
      | 0 => show i.val - Host.clampedStart S300 S1 _ start 0 = 0; rw [hc]; omega))
  · rename_i hin
    rw [if_neg]
    intro e
    refine hin fun a => ?_
    match a with
    | 0 => show Host.clampedStart S300 S1 _ start 0 ≤ i.val ∧ i.val < Host.clampedStart S300 S1 _ start 0 + 1; rw [hc]; omega

/-- One row written. -/
theorem row_put (x : S300x4.Idx → α) (u : S1x4.Idx → α) (start : Fin 2 → Int) (j : ℕ) (hj : j < 300) (hs : start 0 = (j : Int)) (h1 : start 1 = 0)
    (i : Fin 300) (k : Fin 4) :
    Host.dynamicUpdateSlice x u start updateFits_S300x4_S1x4 (ix2 i k) = if i.val = j then u (ix2 0 k) else x (ix2 i k) := by
  have hc : Host.clampedStart S300x4 S1x4 updateFits_S300x4_S1x4.1 start 0 = j :=
    clamped_of (s := S300x4) (t := S1x4) rfl start 0 j hs (Nat.succ_le_of_lt hj)
  have hd : Host.clampedStart S300x4 S1x4 updateFits_S300x4_S1x4.1 start 1 = 0 := clamped_of (s := S300x4) (t := S1x4) rfl start 1 0 h1 (le_refl 4)
  have hk := k.isLt
  rw [Host.dynamicUpdateSlice_apply]
  split
  · rename_i hin
    have h2 := hin 0
    rw [hc] at h2
    have h3 : j ≤ i.val ∧ i.val < j + 1 := h2
    rw [if_pos (by omega)]
    exact congrArg u (funext fun a => Fin.ext (by
      match a with
      | 0 => show i.val - Host.clampedStart S300x4 S1x4 _ start 0 = 0; rw [hc]; omega
      | 1 => show k.val - Host.clampedStart S300x4 S1x4 _ start 1 = k.val; rw [hd]; omega))
  · rename_i hin
    rw [if_neg]
    intro e
    refine hin fun a => ?_
    match a with
    | 0 => show Host.clampedStart S300x4 S1x4 _ start 0 ≤ i.val ∧ i.val < Host.clampedStart S300x4 S1x4 _ start 0 + 1; rw [hc]; omega
    | 1 => show Host.clampedStart S300x4 S1x4 _ start 1 ≤ k.val ∧ k.val < Host.clampedStart S300x4 S1x4 _ start 1 + 4; rw [hd]; omega
end Read

end Cert.Nms
end
-- ==== Proof.RefTrip.lean ====
/- One trip of the reference's loop: the first candidate standing, what it writes, and who stands afterwards. -/
module

public import proofs.«01_k».proof.Proof.RefInit
public import proofs.«01_k».proof.Proof.Best
public import proofs.«01_k».proof.Proof.Window

@[expose] public section

set_option maxRecDepth 16384

noncomputable section

namespace Cert.Nms

open Cert.ReferenceIdeal Cert.ReferenceIdeal.Gen Cert.ReferenceIdeal.Step
open Idealize.ShloMosaic Idealize.ShloMosaic.TcCoe

/-- The bits of −∞. -/
theorem bits_bot : Ideal.ofBits FTy.f32 0xFF800000#32 = ⊥ := by
  simp [Ideal.ofBits, Ideal.ieee]

section Arrays
/-- One value over a whole list. -/
theorem spread_at {α : Type} (x : S_.Idx → α) (r : Fin 4096) : broadcastInDim S4096 ![] bcast_S_S4096 x (ix1 r) = x ix0 := by
  pointwise

/-- The scores of those standing, −∞ for the others. -/
theorem standing_at (v : IVec S4096 1) (x : FVec Ideal S4096 .f32) (r : Fin 4096) :
    select v x (broadcastInDim S4096 ![] bcast_S_S4096 (constant (F := Ideal) S_ .f32 0xFF800000#32)) (ix1 r)
      = Scalar.select (v (ix1 r)) (x (ix1 r)) (Ideal.ofBits FTy.f32 0xFF800000#32) := by
  pointwise

theorem col0_at (x : FVec Ideal S4096x4 .f32) (r : Fin 4096) :
    shapeCast S4096 (extractStridedSlice S4096x1 ![0, 0] x slices_S4096x4_S4096x1_0_0) shapeCasts_S4096x1_S4096 (ix1 r) = x (ix2 r 0) := by pointwise
theorem col1_at (x : FVec Ideal S4096x4 .f32) (r : Fin 4096) :
    shapeCast S4096 (extractStridedSlice S4096x1 ![0, 1] x slices_S4096x4_S4096x1_0_1) shapeCasts_S4096x1_S4096 (ix1 r) = x (ix2 r 1) := by pointwise
theorem col2_at (x : FVec Ideal S4096x4 .f32) (r : Fin 4096) :
    shapeCast S4096 (extractStridedSlice S4096x1 ![0, 2] x slices_S4096x4_S4096x1_0_2) shapeCasts_S4096x1_S4096 (ix1 r) = x (ix2 r 2) := by pointwise
theorem col3_at (x : FVec Ideal S4096x4 .f32) (r : Fin 4096) :
    shapeCast S4096 (extractStridedSlice S4096x1 ![0, 3] x slices_S4096x4_S4096x1_0_3) shapeCasts_S4096x1_S4096 (ix1 r) = x (ix2 r 3) := by pointwise

theorem side0_at (x : FVec Ideal S4 .f32) : shapeCast S_ (extractStridedSlice S1 ![0] x slices_S4_S1_0) shapeCasts_S1_S_ ix0 = x (ix1 0) := by pointwise
theorem side1_at (x : FVec Ideal S4 .f32) : shapeCast S_ (extractStridedSlice S1 ![1] x slices_S4_S1_1) shapeCasts_S1_S_ ix0 = x (ix1 1) := by pointwise
theorem side2_at (x : FVec Ideal S4 .f32) : shapeCast S_ (extractStridedSlice S1 ![2] x slices_S4_S1_2) shapeCasts_S1_S_ ix0 = x (ix1 2) := by pointwise
theorem side3_at (x : FVec Ideal S4 .f32) : shapeCast S_ (extractStridedSlice S1 ![3] x slices_S4_S1_3) shapeCasts_S1_S_ ix0 = x (ix1 3) := by pointwise
end Arrays

/-- A flag as a one-bit word chooses. -/
theorem choose_flag {α : Type} (b : Bool) (x y : α) : Scalar.select (BitVec.ofBool b) x y = if b = true then x else y := by
  cases b <;> rfl

section Trip
variable (j : ℕ) (s : State Ideal) (d : Cand) (hs : Stands s d) (v : Fin 4096 → Bool) (hv : ∀ r, s.main_v27_5 (ix1 r) = BitVec.ofBool (v r))
  (hpos : ∀ r, v r = true → 0 < d.s r) (hfall : ∀ i r : Fin 4096, i ≤ r → d.s r ≤ d.s i)

/-- Where the reference looks: the first standing, or position 0 when nobody stands. -/
def spot (v : Fin 4096 → Bool) : Fin 4096 := if h : first v < 4096 then ⟨first v, h⟩ else 0

theorem spot_none (h : first v = 4096) : spot v = 0 := by
  unfold spot; rw [dif_neg (by omega)]

theorem spot_some (p : Fin 4096) (h : first v = p.val) : spot v = p := by
  have hlt : first v < 4096 := h ▸ p.isLt
  unfold spot
  rw [dif_pos hlt]
  exact Fin.eq_of_val_eq h

include hs hv in
theorem b3_at (r : Fin 4096) : b3 (F := Ideal) j s (ix1 r) = if v r = true then d.s r else ⊥ := by
  refine (standing_at s.main_v27_5 s.main_v27_0 r).trans ?_
  rw [hv, hs.score, choose_flag, bits_bot]

include hs hv hpos hfall in
/-- The largest score is at the spot, and no earlier. -/
theorem spot_best : (∀ r, (b3 (F := Ideal) j s (ix1 r) : EReal) ≤ b3 (F := Ideal) j s (ix1 (spot v)))
    ∧ ∀ r, r < spot v → (b3 (F := Ideal) j s (ix1 r) : EReal) ≠ b3 (F := Ideal) j s (ix1 (spot v)) := by
  have hb := b3_at j s d hs v hv
  rcases first_cases v with ⟨h0, h1⟩ | ⟨p, hp, hm, h1⟩
  · have hbot : ∀ r, b3 (F := Ideal) j s (ix1 r) = (⊥ : EReal) := fun r => by rw [hb, h0 r]; rfl
    rw [spot_none v h1]
    exact ⟨fun r => by rw [hbot, hbot], fun r hr => absurd hr (Nat.not_lt_zero _)⟩
  · rw [spot_some v p h1]
    have hpv : b3 (F := Ideal) j s (ix1 p) = d.s p := by rw [hb, if_pos hp]
    refine ⟨fun r => ?_, fun r hr => ?_⟩
    · rw [hpv, hb]
      by_cases h : v r = true
      · rw [if_pos h]; exact hfall p r (hm r h)
      · rw [if_neg h]; exact bot_le
    · rw [hpv, hb, if_neg fun h => absurd (hm r h) (not_le.2 hr)]
      exact ne_of_lt (lt_of_le_of_lt bot_le (hpos p hp))

include hs hv hpos hfall in
theorem b5_at : b5 (F := Ideal) j s ix0 = b3 (F := Ideal) j s (ix1 (spot v)) :=
  max_all (b3 (F := Ideal) j s) (constant (F := Ideal) S_ .f32 0xFF800000#32) reducesTo_S4096_S_d0 h_S_ ix0 (spot v)
    (le_of_eq_of_le bits_bot bot_le) (spot_best j s d hs v hv hpos hfall).1

include hs hv hpos hfall in
theorem b14_at : b14 (F := Ideal) j s ix0 = BitVec.ofNat 32 (spot v).val :=
  first_best (b3 (F := Ideal) j s) (b5 (F := Ideal) j s) (constantI S_ 32 2147483647#32) rfl reducesTo_S4096_S_d0 h_S_ (spot v)
    (b5_at j s d hs v hv hpos hfall) (spot_best j s d hs v hv hpos hfall).2 ix0

/-- A position's word as an integer. -/
theorem word_int (w : IVec S_ 32) (p : Fin 4096) (h : w ix0 = BitVec.ofNat 32 p.val) : (w (Shape.Idx.first h_S_)).toInt = (p.val : Int) := by
  rw [show Shape.Idx.first h_S_ = ix0 from funext fun d => d.elim0, h]
  exact StableHlo.Predicate.toInt_ofNat_small p.val (lt_trans p.isLt (by decide))

include hs hv hpos hfall in
theorem b19_at : b19 (F := Ideal) j s ix0 = BitVec.ofNat 32 (spot v).val := by
  unfold b19
  exact wrapped_at (b14 (F := Ideal) j s) (spot v) (b14_at j s d hs v hv hpos hfall)
include hs hv hpos hfall in
theorem b26_at : b26 (F := Ideal) j s ix0 = BitVec.ofNat 32 (spot v).val := by
  unfold b26
  exact wrapped_at (b14 (F := Ideal) j s) (spot v) (b14_at j s d hs v hv hpos hfall)
include hs hv hpos hfall in
theorem b33_at : b33 (F := Ideal) j s ix0 = BitVec.ofNat 32 (spot v).val := by
  unfold b33
  exact wrapped_at (b14 (F := Ideal) j s) (spot v) (b14_at j s d hs v hv hpos hfall)
include hs hv hpos hfall in
theorem b41_at : b41 (F := Ideal) j s ix0 = BitVec.ofNat 32 (spot v).val := by
  unfold b41
  exact wrapped_at (b14 (F := Ideal) j s) (spot v) (b14_at j s d hs v hv hpos hfall)
include hs hv hpos hfall in
theorem b49_at : b49 (F := Ideal) j s ix0 = BitVec.ofNat 32 (spot v).val := by
  unfold b49
  exact wrapped_at (b14 (F := Ideal) j s) (spot v) (b14_at j s d hs v hv hpos hfall)
include hs hv hpos hfall in
theorem b21_at : b21 (F := Ideal) j s ix0 = BitVec.ofBool (v (spot v)) := by
  have hw := word_int (b19 (F := Ideal) j s) (spot v) (b19_at j s d hs v hv hpos hfall)
  unfold b21 b20
  generalize b19 (F := Ideal) j s = w at hw
  exact (entry_at s.main_v27_5 _ (spot v) hw).trans (hv _)
include hs hv hpos hfall in
theorem b28_at : b28 (F := Ideal) j s ix0 = d.s (spot v) := by
  have hw := word_int (b26 (F := Ideal) j s) (spot v) (b26_at j s d hs v hv hpos hfall)
  unfold b28 b27
  generalize b26 (F := Ideal) j s = w at hw
  exact (entry_at s.main_v27_0 _ (spot v) hw).trans (hs.score _)
include hs hv hpos hfall in
theorem b51_at : b51 (F := Ideal) j s ix0 = BitVec.ofNat 32 (d.c (spot v)) := by
  have hw := word_int (b49 (F := Ideal) j s) (spot v) (b49_at j s d hs v hv hpos hfall)
  unfold b51 b50
  generalize b49 (F := Ideal) j s = w at hw
  exact (entry_at s.main_v27_3 _ (spot v) hw).trans (hs.cls _)
include hs hv hpos hfall in
theorem b36_at (k : Fin 4) : b36 (F := Ideal) j s (ix1 k) = d.b k (spot v) := by
  have hw := word_int (b33 (F := Ideal) j s) (spot v) (b33_at j s d hs v hv hpos hfall)
  unfold b36 b35
  generalize b33 (F := Ideal) j s = w at hw
  exact (row_read s.main_v27_1 _ (spot v) hw rfl k).trans (hs.box _ k)
include hs hv hpos hfall in
theorem b44_at (k : Fin 4) : b44 (F := Ideal) j s (ix1 k) = d.off k (spot v) := by
  have hw := word_int (b41 (F := Ideal) j s) (spot v) (b41_at j s d hs v hv hpos hfall)
  unfold b44 b43
  generalize b41 (F := Ideal) j s = w at hw
  exact (row_read s.main_v27_2 _ (spot v) hw rfl k).trans (hs.moved _ k)
end Trip

section Overlap
variable (j : ℕ) (s : State Ideal) (d : Cand) (hs : Stands s d) (p : Fin 4 → EReal) (hp : ∀ k, b44 (F := Ideal) j s (ix1 k) = p k) (r : Fin 4096)

include hp in
theorem sides : b53 (F := Ideal) j s ix0 = p 0 ∧ b59 (F := Ideal) j s ix0 = p 1 ∧ b65 (F := Ideal) j s ix0 = p 2 ∧ b71 (F := Ideal) j s ix0 = p 3 :=
  ⟨(side0_at _).trans (hp 0), (side1_at _).trans (hp 1), (side2_at _).trans (hp 2), (side3_at _).trans (hp 3)⟩

include hs in
theorem cols : b55 (F := Ideal) j s (ix1 r) = d.off 0 r ∧ b61 (F := Ideal) j s (ix1 r) = d.off 1 r
    ∧ b67 (F := Ideal) j s (ix1 r) = d.off 2 r ∧ b73 (F := Ideal) j s (ix1 r) = d.off 3 r :=
  ⟨(col0_at _ r).trans (hs.moved r 0), (col1_at _ r).trans (hs.moved r 1), (col2_at _ r).trans (hs.moved r 2), (col3_at _ r).trans (hs.moved r 3)⟩

include hs hp in
theorem b76_at : b76 (F := Ideal) j s (ix1 r) = min (p 2) (d.off 2 r) - max (p 0) (d.off 0 r) := by
  obtain ⟨s0, _, s2, _⟩ := sides j s p hp
  obtain ⟨c0, _, c2, _⟩ := cols j s d hs r
  rw [← s0, ← s2, ← c0, ← c2, ← spread_at (b53 (F := Ideal) j s) r, ← spread_at (b65 (F := Ideal) j s) r]
  rfl

include hs hp in
theorem b80_at : b80 (F := Ideal) j s (ix1 r) = min (p 3) (d.off 3 r) - max (p 1) (d.off 1 r) := by
  obtain ⟨_, s1, _, s3⟩ := sides j s p hp
  obtain ⟨_, c1, _, c3⟩ := cols j s d hs r
  rw [← s1, ← s3, ← c1, ← c3, ← spread_at (b59 (F := Ideal) j s) r, ← spread_at (b71 (F := Ideal) j s) r]
  rfl

theorem zeros_at : (broadcastInDim S4096 ![] bcast_S_S4096 (constant (F := Ideal) S_ .f32 0x00000000#32) (ix1 r) : EReal) = 0 :=
  (spread_at _ r).trans Ideal.ofBits_zero_f32

include hs hp in
theorem b84_at : b84 (F := Ideal) j s (ix1 r) = d.inter p r := by
  unfold Cand.inter
  rw [← b76_at j s d hs p hp r, ← b80_at j s d hs p hp r, ← zeros_at r]
  rfl

include hp in
theorem b95_at : b95 (F := Ideal) j s ix0 = (p 2 - p 0) * (p 3 - p 1) := by
  have e86 : b86 (F := Ideal) j s ix0 = p 2 := (side2_at _).trans (hp 2)
  have e88 : b88 (F := Ideal) j s ix0 = p 0 := (side0_at _).trans (hp 0)
  have e91 : b91 (F := Ideal) j s ix0 = p 3 := (side3_at _).trans (hp 3)
  have e93 : b93 (F := Ideal) j s ix0 = p 1 := (side1_at _).trans (hp 1)
  rw [← e86, ← e88, ← e91, ← e93]
  rfl

include hs in
theorem b106_at : b106 (F := Ideal) j s (ix1 r) = d.area r := by
  have e97 : b97 (F := Ideal) j s (ix1 r) = d.off 2 r := (col2_at _ r).trans (hs.moved r 2)
  have e99 : b99 (F := Ideal) j s (ix1 r) = d.off 0 r := (col0_at _ r).trans (hs.moved r 0)
  have e102 : b102 (F := Ideal) j s (ix1 r) = d.off 3 r := (col3_at _ r).trans (hs.moved r 3)
  have e104 : b104 (F := Ideal) j s (ix1 r) = d.off 1 r := (col1_at _ r).trans (hs.moved r 1)
  unfold Cand.area
  rw [← e97, ← e99, ← e102, ← e104]
  rfl

include hs hp in
theorem b113_at : b113 (F := Ideal) j s (ix1 r) = d.iou p r := by
  have e1 : (b111 (F := Ideal) j s (ix1 r) : EReal) = Ideal.ofBits FTy.f32 0x3089705F#32 := spread_at _ r
  have e2 : (b107 (F := Ideal) j s (ix1 r) : EReal) = (p 2 - p 0) * (p 3 - p 1) := (spread_at _ r).trans (b95_at j s p hp)
  unfold Cand.iou
  rw [← b84_at j s d hs p hp r, ← b106_at j s d hs r, ← e1, ← e2]
  rfl

include hs hp in
theorem b116_at : b116 (F := Ideal) j s (ix1 r) = BitVec.ofBool (decide (d.iou p r ≤ Ideal.ofBits .f32 0x3F266666#32)) := by
  have e1 : (b115 (F := Ideal) j s (ix1 r) : EReal) = Ideal.ofBits FTy.f32 0x3F266666#32 := spread_at _ r
  rw [← b113_at j s d hs p hp r, ← e1]
  rfl
end Overlap

end Cert.Nms
end
-- ==== Proof.RefRun.lean ====
module

public import proofs.«01_k».proof.Proof.Gen.ReferenceIdeal.Run
public import proofs.«01_k».proof.Proof.Gen.ReferenceIdeal.Step
public import Idealize.ShloMosaic.Lib.Quiescent

/-! What the reference leaves: its loop's buffers, read as one state, go from trip to trip by the reference's own
step, so its results are the fields of the step iterated three hundred times. -/

@[expose] public section

noncomputable section

namespace Cert.Nms.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers, as a state. -/
def held (V : Valuation τ sig (Elt F)) : State F where
  main_v27_5 := V (Proc.devRef .tc main_v27_5)
  main_v27_6 := V (Proc.devRef .tc main_v27_6)
  main_v27_7 := V (Proc.devRef .tc main_v27_7)
  main_v27_8 := V (Proc.devRef .tc main_v27_8)
  main_v27_9 := V (Proc.devRef .tc main_v27_9)
  main_v27_0 := V (Proc.devRef .tc main_v27_0)
  main_v27_1 := V (Proc.devRef .tc main_v27_1)
  main_v27_2 := V (Proc.devRef .tc main_v27_2)
  main_v27_3 := V (Proc.devRef .tc main_v27_3)

/-- The trip counter's buffer holds `j`. -/
def AtTrip (V : Valuation τ sig (Elt F)) (j : ℕ) : Prop :=
  V (Proc.devRef .tc main_v27_4) = constantI S_ 32 (BitVec.ofNat 32 j)

variable {V : Valuation τ sig (Elt F)} {j : ℕ}

set_option maxRecDepth 8192 in
theorem next_5 : step_main_v27_5 V = (step j (held V)).main_v27_5 := by
  unfold step_main_v27_5; rfl

set_option maxRecDepth 8192 in
theorem next_6 (h : AtTrip V j) : step_main_v27_6 V = (step j (held V)).main_v27_6 := by
  unfold step_main_v27_6; unfold AtTrip at h; rw [h]; rfl

set_option maxRecDepth 8192 in
theorem next_7 (h : AtTrip V j) : step_main_v27_7 V = (step j (held V)).main_v27_7 := by
  unfold step_main_v27_7; unfold AtTrip at h; rw [h]; rfl

set_option maxRecDepth 8192 in
theorem next_8 (h : AtTrip V j) : step_main_v27_8 V = (step j (held V)).main_v27_8 := by
  unfold step_main_v27_8; unfold AtTrip at h; rw [h]; rfl

set_option maxRecDepth 8192 in
theorem next_9 (h : AtTrip V j) : step_main_v27_9 V = (step j (held V)).main_v27_9 := by
  unfold step_main_v27_9; unfold AtTrip at h; rw [h]; rfl

theorem next_count (h : AtTrip V j) : AtTrip (STEP V) (j + 1) := by
  unfold AtTrip at *
  rw [STEP_main_v27_4]
  unfold step_main_v27_4
  rw [h]
  funext i
  show BitVec.ofNat 32 j + 1#32 = BitVec.ofNat 32 (j + 1)
  simp only [BitVec.ofNat_add]

/-- One trip of the loop is one step of the state. -/
theorem held_step (h : AtTrip V j) : held (STEP V) = step j (held V) := by
  have e5 : (held (STEP V)).main_v27_5 = (step j (held V)).main_v27_5 := (STEP_main_v27_5 V).trans next_5
  have e6 : (held (STEP V)).main_v27_6 = (step j (held V)).main_v27_6 := (STEP_main_v27_6 V).trans (next_6 h)
  have e7 : (held (STEP V)).main_v27_7 = (step j (held V)).main_v27_7 := (STEP_main_v27_7 V).trans (next_7 h)
  have e8 : (held (STEP V)).main_v27_8 = (step j (held V)).main_v27_8 := (STEP_main_v27_8 V).trans (next_8 h)
  have e9 : (held (STEP V)).main_v27_9 = (step j (held V)).main_v27_9 := (STEP_main_v27_9 V).trans (next_9 h)
  have e0 : (held (STEP V)).main_v27_0 = (step j (held V)).main_v27_0 := STEP_main_v27_0 V
  have e1 : (held (STEP V)).main_v27_1 = (step j (held V)).main_v27_1 := STEP_main_v27_1 V
  have e2 : (held (STEP V)).main_v27_2 = (step j (held V)).main_v27_2 := STEP_main_v27_2 V
  have e3 : (held (STEP V)).main_v27_3 = (step j (held V)).main_v27_3 := STEP_main_v27_3 V
  generalize held (STEP V) = a at *
  generalize step j (held V) = b at *
  cases a; cases b
  simp only at e5 e6 e7 e8 e9 e0 e1 e2 e3
  subst e5 e6 e7 e8 e9 e0 e1 e2 e3
  rfl

/-- The state before trip `n`, from the two arrays the reference starts from. -/
def seq (a : (⟨S1x20000x4, .f32⟩ : BufTy).Contents (Elt F)) (b : (⟨S1x20000x80, .f32⟩ : BufTy).Contents (Elt F)) :
    ℕ → State F
  | 0 => init a b
  | n + 1 => step n (seq a b n)

variable (m : (ℓ : Loc nD τ sig) → Buf (Elt F) ℓ) (c : Dev nD)

set_option maxRecDepth 65536 in
theorem entry_count : AtTrip (entryContents preI m c) 0 := ctr_entry m c

section Entry

open Cert.ReferenceIdeal.Step

variable (W : Valuation τ sig (Elt F))

/-- What the operations from the top-k on leave, of the contents `W` before them. -/
abbrev late (W : Valuation τ sig (Elt F)) : Valuation τ sig (Elt F) :=
  after hostOps0_4 (after hostOps0_3 (after hostOps0_2 W))

/-- The positions the top-k returns, of the buffer it reads. -/
abbrev topIdx (W : Valuation τ sig (Elt F)) : (⟨S4096, .i32⟩ : BufTy).Contents (Elt F) :=
  (Host.topK S4096 0 (FloatOps.cmpfTotal .gt) (W (Proc.devRef .tc main_v5) : (⟨S1600000, .f32⟩ : BufTy).Contents (Elt F))
    sliceFits_S1600000_S4096).2

/-- The boxes the top-k's positions name. -/
abbrev topBox (W : Valuation τ sig (Elt F)) : (⟨S4096x4, .f32⟩ : BufTy).Contents (Elt F) :=
  Host.gather gather_S20000x4_S4096x1_S4096x4_1_0_n_n_0_1_14 (W (Proc.devRef .tc main_v0))
    (broadcastInDim S4096x1 ![0] bcast_S4096_S4096x1_0 (Host.divsi (topIdx W) (K_main_v6 (F := F))))

/-- The classes of the top-k's positions. -/
abbrev topCls (W : Valuation τ sig (Elt F)) : (⟨S4096, .i32⟩ : BufTy).Contents (Elt F) :=
  Host.remsi (topIdx W) (K_main_v9 (F := F))

set_option maxRecDepth 8192 in
theorem late_0 : late W (Proc.devRef .tc main_v27_0)
    = (Host.topK S4096 0 (FloatOps.cmpfTotal .gt)
        (W (Proc.devRef .tc main_v5) : (⟨S1600000, .f32⟩ : BufTy).Contents (Elt F)) sliceFits_S1600000_S4096).1 := by
  unfold late; after_reads_simp; rfl

set_option maxRecDepth 8192 in
theorem late_1 : late W (Proc.devRef .tc main_v27_1) = topBox W := by
  unfold late topBox topIdx K_main_v6 K_main_c; after_reads_simp; simp only [id_eq]
  have e8 : ∀ v : (⟨S4096x4, .f32⟩ : BufTy).Contents (Elt F), (TRef.of (T := ⟨S4096x4, .f32⟩) main_v8).toBuf v = v := fun _ => rfl
  have e0 : ∀ v : (⟨S20000x4, .f32⟩ : BufTy).Contents (Elt F), (TRef.of (T := ⟨S20000x4, .f32⟩) main_v0).ofBuf v = v := fun _ => rfl
  have e7 : ∀ v : (⟨S4096, .i32⟩ : BufTy).Contents (Elt F), (TRef.of (T := ⟨S4096, .i32⟩) main_v7).ofBuf v = v := fun _ => rfl
  rw [e8, TRef.ofBuf_toBuf, e0, e7]

set_option maxRecDepth 8192 in
theorem late_2 : late W (Proc.devRef .tc main_v27_2) = addf (topBox W)
    (broadcastInDim S4096x4 ![0, 1] bcast_S4096x1_S4096x4_0_1
      (broadcastInDim S4096x1 ![0] bcast_S4096_S4096x1_0
        (mulf (sitofp .f32 (topCls W)) (broadcastInDim S4096 ![] bcast_S_S4096
          (addf (subf (Host.reduce FloatOps.maximumf (W (Proc.devRef .tc main_v0)) (K_main_cst_2 (F := F))
              reducesTo_S20000x4_S_d0_1 h_S_)
            (Host.reduce FloatOps.minimumf (W (Proc.devRef .tc main_v0)) (K_main_cst_3 (F := F))
              reducesTo_S20000x4_S_d0_1 h_S_)) (K_main_cst_4 (F := F))))))) := by
  unfold late topBox topCls topIdx K_main_v6 K_main_v9 K_main_c K_main_c_1 K_main_cst_2 K_main_cst_3 K_main_cst_4; after_reads_simp; simp only [id_eq]
  have e8 : ∀ v : (⟨S4096x4, .f32⟩ : BufTy).Contents (Elt F), (TRef.of (T := ⟨S4096x4, .f32⟩) main_v8).toBuf v = v := fun _ => rfl
  have e0 : ∀ v : (⟨S20000x4, .f32⟩ : BufTy).Contents (Elt F), (TRef.of (T := ⟨S20000x4, .f32⟩) main_v0).ofBuf v = v := fun _ => rfl
  have e7 : ∀ v : (⟨S4096, .i32⟩ : BufTy).Contents (Elt F), (TRef.of (T := ⟨S4096, .i32⟩) main_v7).ofBuf v = v := fun _ => rfl
  rw [e8, TRef.ofBuf_toBuf, e0, e7]

set_option maxRecDepth 8192 in
theorem late_3 : late W (Proc.devRef .tc main_v27_3) = topCls W := by
  unfold late topCls topIdx K_main_v9 K_main_c_1; after_reads_simp; simp only [id_eq]; try rfl

set_option maxRecDepth 8192 in
theorem late_5 : late W (Proc.devRef .tc main_v27_5) = cmpf .ogt
    (Host.topK S4096 0 (FloatOps.cmpfTotal .gt)
        (W (Proc.devRef .tc main_v5) : (⟨S1600000, .f32⟩ : BufTy).Contents (Elt F)) sliceFits_S1600000_S4096).1
    (K_main_v21 (F := F)) := by
  unfold late; after_reads_simp; rfl

set_option maxRecDepth 8192 in
theorem late_6 : late W (Proc.devRef .tc main_v27_6) = K_main_v23 (F := F) := by
  unfold late; after_reads_simp; rfl

set_option maxRecDepth 8192 in
theorem late_7 : late W (Proc.devRef .tc main_v27_7) = K_main_v24 (F := F) := by
  unfold late; after_reads_simp; rfl

set_option maxRecDepth 8192 in
theorem late_8 : late W (Proc.devRef .tc main_v27_8) = K_main_v25 (F := F) := by
  unfold late; after_reads_simp; rfl

set_option maxRecDepth 8192 in
theorem late_9 : late W (Proc.devRef .tc main_v27_9) = K_main_v26 (F := F) := by
  unfold late; after_reads_simp; rfl

/-- What the operations before the top-k leave. -/
abbrev early (L : Valuation τ sig (Elt F)) : Valuation τ sig (Elt F) := after hostOps0_1 (after hostOps0 L)

theorem early_0 (L : Valuation τ sig (Elt F)) : early L (Proc.devRef .tc main_v0)
    = A_main_v0 (L (Proc.devRef .tc main_arg0)) (L (Proc.devRef .tc main_arg1)) := by
  unfold early; after_reads_simp; rfl

theorem early_5 (L : Valuation τ sig (Elt F)) : early L (Proc.devRef .tc main_v5)
    = A_main_v5 (L (Proc.devRef .tc main_arg0)) (L (Proc.devRef .tc main_arg1)) := by
  unfold early; after_reads_simp; rfl

end Entry

open Cert.ReferenceIdeal.Step in
/-- What the operations before the loop leave is the state the reference starts from. -/
theorem entry_held : held (entryContents preI m c)
    = init (m ((c.tc : Thread nD τ).loc main_arg0)) (m ((c.tc : Thread nD τ).loc main_arg1)) := by
  have hv : entryContents preI m c = late (early (launchContents m c)) := rfl
  have h5 := early_5 (launchContents m c)
  have h0 := early_0 (launchContents m c)
  rw [hv]
  generalize early (launchContents m c) = W at *
  unfold held init
  rw [State.mk.injEq]
  refine ⟨?_, ?_, ?_, ?_, ?_, ?_, ?_, ?_, ?_⟩
  · rw [late_5, h5, A_main_v22, A_main_values]
  · exact late_6 W
  · exact late_7 W
  · exact late_8 W
  · exact late_9 W
  · rw [late_0, h5, A_main_values]
  · rw [late_1, topBox, topIdx, h5, h0, A_main_v8, A_main_call1_v0, A_main_v7, A_main_indices]
  · rw [late_2, topBox, topCls, topIdx, h5, h0, A_main_v20, A_main_v19, A_main_v18, A_main_v17, A_main_v16,
      A_main_v15, A_main_v14, A_main_v13, A_main_v12, A_main_v11, A_main_v10, A_main_v8, A_main_call1_v0, A_main_v7,
      A_main_indices]
  · rw [late_3, topCls, topIdx, h5, A_main_v10, A_main_indices]

/-- Before trip `k` the loop's buffers hold state number `k`. -/
theorem held_iter : ∀ k, AtTrip (STEP^[k] (entryContents preI m c)) k
    ∧ held (STEP^[k] (entryContents preI m c))
      = seq (m ((c.tc : Thread nD τ).loc main_arg0)) (m ((c.tc : Thread nD τ).loc main_arg1)) k
  | 0 => ⟨entry_count m c, entry_held m c⟩
  | k + 1 => by
    have ih := held_iter k
    rw [Function.iterate_succ_apply']
    exact ⟨next_count ih.1, by rw [held_step ih.1, ih.2, seq]⟩

/-- The state after the last trip. -/
def last : State F := seq (m ((c.tc : Thread nD τ).loc main_arg0)) (m ((c.tc : Thread nD τ).loc main_arg1)) 300

theorem held_last : held (STEP^[300] (entryContents preI m c)) = last m c := (held_iter m c 300).2

/-- THE REFERENCE'S RESULTS: the fields of state number three hundred, every argument unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v27_6) = (last m c).main_v27_6
      ∧ r.2.mem ((c.tc : Thread nD τ).loc main_v27_7) = (last m c).main_v27_7
      ∧ r.2.mem ((c.tc : Thread nD τ).loc main_v27_8) = (last m c).main_v27_8
      ∧ r.2.mem ((c.tc : Thread nD τ).loc main_v30) = Cert.ReferenceIdeal.Step.R_main_v30 (last m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h1, h2, h3, h4, h5⟩ := h c
    have hk := held_last m c
    generalize last m c = s at *
    generalize STEP^[300] (entryContents preI m c) = X at *
    subst hk
    exact ⟨h1, h2, h3, h4, h5⟩) (Value.run m ρ)

end Cert.Nms.RefRun

end
-- ==== Proof.RefLoop.lean ====
/- The reference's loop: after each trip its arrays hold the suppression model's results so far. -/
module

public import proofs.«01_k».proof.Proof.RefTrip
public import proofs.«01_k».proof.Proof.RefRun

@[expose] public section

set_option maxRecDepth 16384

noncomputable section

namespace Cert.Nms

open Cert.ReferenceIdeal Cert.ReferenceIdeal.Gen Cert.ReferenceIdeal.Step
open Idealize.ShloMosaic Idealize.ShloMosaic.TcCoe

section Spot
variable (v : Fin 4096 → Bool)

theorem spot_found : v (spot v) = decide (first v < 4096) := by
  rcases first_cases v with ⟨h0, h1⟩ | ⟨p, hp, _, h1⟩
  · rw [h0, decide_eq_false (by omega)]
  · rw [spot_some v p h1, hp, decide_eq_true (h1 ▸ p.isLt)]

theorem spot_pick (f : Fin 4096 → EReal) : (if v (spot v) = true then f (spot v) else 0) = pick v f := by
  rcases first_cases v with ⟨h0, h1⟩ | ⟨p, hp, _, h1⟩
  · rw [h0, pick_none v h1]; rfl
  · rw [spot_some v p h1, if_pos hp, pick_some v p h1]

theorem spot_standing (r : Fin 4096) (h : v r = true) (f : Fin 4096 → EReal) : f (spot v) = pick v f := by
  rcases first_cases v with ⟨h0, _⟩ | ⟨p, hp, _, h1⟩
  · exact absurd ((h0 r).symm.trans h) Bool.false_ne_true
  · rw [spot_some v p h1, pick_some v p h1]
end Spot

section Writes
theorem box_or_zero (w : IVec S_ 1) (x : FVec Ideal S4 .f32) (k : Fin 4) :
    broadcastInDim S1x4 ![1] bcast_S4_S1x4_1 (select (broadcastInDim S4 ![] bcast_S_S4 w) x (broadcastInDim S4 ![] bcast_S_S4 (constant (F := Ideal) S_ .f32 0x00000000#32))) (ix2 0 k)
      = Scalar.select (w ix0) (x (ix1 k)) (Ideal.ofBits FTy.f32 0x00000000#32) := by
  pointwise
theorem one_of {α : Type} (x : S_.Idx → α) : broadcastInDim S1 ![] bcast_S_S1 x (ix1 0) = x ix0 := by
  pointwise
end Writes

/-- The reference before trip `j`. -/
structure Reached (j : ℕ) (s : State Ideal) (d : Cand) : Prop where
  stands : Stands s d
  valid : ∀ r, s.main_v27_5 (ix1 r) = BitVec.ofBool (d.valid j r)
  boxes : ∀ (i : Fin 300) (k : Fin 4), i.val < j → s.main_v27_6 (ix2 i k) = d.outBox i.val k
  scores : ∀ i : Fin 300, i.val < j → s.main_v27_7 (ix1 i) = d.outScore i.val
  classes : ∀ i : Fin 300, i.val < j → s.main_v27_8 (ix1 i) = d.outClass i.val
  flags : ∀ i : Fin 300, i.val < j → s.main_v27_9 (ix1 i) = BitVec.ofBool (d.found i.val)

section Step
variable (j : ℕ) (hj : j < 300) (s : State Ideal) (d : Cand) (h : Reached j s d) (hfall : ∀ i r : Fin 4096, i ≤ r → d.s r ≤ d.s i)

include h hfall in
theorem new_box (k : Fin 4) : b127 (F := Ideal) j s (ix2 0 k) = d.outBox j k := by
  refine (box_or_zero (b21 (F := Ideal) j s) (b36 (F := Ideal) j s) k).trans ?_
  rw [b21_at j s d h.stands _ h.valid (d.valid_pos j) hfall, b36_at j s d h.stands _ h.valid (d.valid_pos j) hfall, choose_flag, Ideal.ofBits_zero_f32]
  exact spot_pick (d.valid j) (d.b k)

include h hfall in
theorem new_score : b130 (F := Ideal) j s (ix1 0) = d.outScore j := by
  refine (one_of (b123 (F := Ideal) j s)).trans ?_
  refine Eq.trans (b := Scalar.select (b21 (F := Ideal) j s ix0) (b28 (F := Ideal) j s ix0) (Ideal.ofBits FTy.f32 0x00000000#32)) rfl ?_
  rw [b21_at j s d h.stands _ h.valid (d.valid_pos j) hfall, b28_at j s d h.stands _ h.valid (d.valid_pos j) hfall, choose_flag, Ideal.ofBits_zero_f32]
  exact spot_pick (d.valid j) d.s

include h hfall in
theorem new_class : b132 (F := Ideal) j s (ix1 0) = d.outClass j := by
  refine (one_of (b126 (F := Ideal) j s)).trans ?_
  refine Eq.trans (b := Scalar.select (b21 (F := Ideal) j s ix0) (b51 (F := Ideal) j s ix0) 4294967295#32) rfl ?_
  rw [b21_at j s d h.stands _ h.valid (d.valid_pos j) hfall, b51_at j s d h.stands _ h.valid (d.valid_pos j) hfall, choose_flag]
  unfold Cand.outClass
  rcases first_cases (d.valid j) with ⟨h0, h1⟩ | ⟨p, hp, _, h1⟩
  · rw [h0, dif_neg (by omega)]; rfl
  · have hlt : first (d.valid j) < 4096 := h1 ▸ p.isLt
    rw [spot_some _ p h1, if_pos hp, dif_pos hlt, show (⟨first (d.valid j), hlt⟩ : Fin 4096) = p from Fin.eq_of_val_eq h1]

include h hfall in
theorem new_flag : b134 (F := Ideal) j s (ix1 0) = BitVec.ofBool (d.found j) := by
  refine (one_of (b21 (F := Ideal) j s)).trans ?_
  rw [b21_at j s d h.stands _ h.valid (d.valid_pos j) hfall, spot_found (d.valid j)]
  rfl

include h hfall in
/-- Who stands after the trip. -/
theorem new_valid (r : Fin 4096) : b117 (F := Ideal) j s (ix1 r) = BitVec.ofBool (d.valid (j + 1) r) := by
  refine Eq.trans (b := IntOp.andi (s.main_v27_5 (ix1 r)) (b116 (F := Ideal) j s (ix1 r))) rfl ?_
  rw [h.valid, b116_at j s d h.stands (fun k => d.off k (spot (d.valid j))) (b44_at j s d h.stands _ h.valid (d.valid_pos j) hfall) r]
  have hn : d.valid (j + 1) r = (d.valid j r && decide (d.iou (fun k => pick (d.valid j) (d.off k)) r ≤ Ideal.ofBits .f32 0x3F266666#32)) := rfl
  have hand : ∀ a b : Bool, IntOp.andi (BitVec.ofBool a) (BitVec.ofBool b) = BitVec.ofBool (a && b) := by decide
  rw [hn, hand]
  by_cases hr : d.valid j r = true
  · rw [show (fun k => d.off k (spot (d.valid j))) = fun k => pick (d.valid j) (d.off k) from
      funext fun k => spot_standing (d.valid j) r hr (d.off k)]
  · rw [Bool.eq_false_iff.2 hr, Bool.false_and, Bool.false_and]

theorem trip_int : (constantI S_ 32 (BitVec.ofNat 32 j) (Shape.Idx.first h_S_)).toInt = (j : Int) ∨ ¬ j < 300 := by
  by_cases hj : j < 300
  · exact .inl (StableHlo.Predicate.toInt_ofNat_small j (lt_trans hj (by decide)))
  · exact .inr hj

include hj h hfall in
theorem reached_step : Reached (j + 1) (step (F := Ideal) j s) d := by
  have hi : (constantI S_ 32 (BitVec.ofNat 32 j) (Shape.Idx.first h_S_)).toInt = (j : Int) := (trip_int j).resolve_right (not_not.2 hj)
  refine ⟨⟨fun r => ?_, fun r k => ?_, fun r k => ?_, fun r => ?_⟩, fun r => ?_, fun i k hlt => ?_, fun i hlt => ?_, fun i hlt => ?_, fun i hlt => ?_⟩
  · exact h.stands.score r
  · exact h.stands.box r k
  · exact h.stands.moved r k
  · exact h.stands.cls r
  · rw [step_main_v27_5]
    exact new_valid j s d h hfall r
  · rw [step_main_v27_6]
    unfold b129
    refine (row_put s.main_v27_6 (b127 (F := Ideal) j s) _ j hj hi rfl i k).trans ?_
    by_cases e : i.val = j
    · rw [if_pos e, e]; exact new_box j s d h hfall k
    · rw [if_neg e]; exact h.boxes i k (by omega)
  · rw [step_main_v27_7]
    unfold b131
    refine (entry_put s.main_v27_7 (b130 (F := Ideal) j s) _ j hj hi i).trans ?_
    by_cases e : i.val = j
    · rw [if_pos e, e]; exact new_score j s d h hfall
    · rw [if_neg e]; exact h.scores i (by omega)
  · rw [step_main_v27_8]
    unfold b133
    refine (entry_put s.main_v27_8 (b132 (F := Ideal) j s) _ j hj hi i).trans ?_
    by_cases e : i.val = j
    · rw [if_pos e, e]; exact new_class j s d h hfall
    · rw [if_neg e]; exact h.classes i (by omega)
  · rw [step_main_v27_9]
    unfold b135
    refine (entry_put s.main_v27_9 (b134 (F := Ideal) j s) _ j hj hi i).trans ?_
    by_cases e : i.val = j
    · rw [if_pos e, e]; exact new_flag j s d h hfall
    · rw [if_neg e]; exact h.flags i (by omega)
end Step

section Count
/-- The suppression's count as the number of trips that found somebody. -/
theorem count_card (d : Cand) (n : ℕ) : d.count n = (Finset.univ.filter fun i : Fin n => d.found i.val = true).card := by
  rw [Finset.card_filter]
  induction n with
  | zero => rfl
  | succ n ih =>
    rw [Cand.count_succ, ih, Fin.sum_univ_castSucc]
    rfl

/-- The reference's last result: its flags counted. -/
theorem count_at (s : State Ideal) (d : Cand) (h : ∀ i : Fin 300, s.main_v27_9 (ix1 i) = BitVec.ofBool (d.found i.val)) (y : S1.Idx) :
    R_main_v30 s y = BitVec.ofNat 32 (d.count 300) := by
  unfold R_main_v30
  have key : ∀ j : S_.Idx, Host.reduce IntOp.addi (extui 32 s.main_v27_9 natLt_1_32) (constantI S_ 32 0#32) reducesTo_S300_S_d0 h_S_ j = BitVec.ofNat 32 (d.count 300) := by
    intro j
    refine (Host.reduce_eq_fold IntOp.addi _ _ reducesTo_S300_S_d0 h_S_ j).trans ?_
    have hj : ∀ i : S300.Idx, reducesTo_S300_S_d0.drop i = j := fun i => funext fun d => d.elim0
    rw [Finset.filter_true_of_mem (fun i _ => hj i)]
    refine (IndicatorCount.fold_addi_setWidth_eq_card s.main_v27_9 Finset.univ).trans ?_
    refine congrArg (BitVec.ofNat 32) ?_
    rw [count_card]
    have hb : ∀ b : Bool, BitVec.ofBool b = 1#1 ↔ b = true := by decide
    refine Finset.card_bij' (fun i _ => (i 0 : Fin 300)) (fun p _ => ix1 p) ?_ ?_ ?_ ?_
    · intro i hi
      exact Finset.mem_filter.2 ⟨Finset.mem_univ _, (hb _).1 ((h (i 0)).symm.trans ((congrArg s.main_v27_9 (eq_ix1 i)).symm.trans (Finset.mem_filter.1 hi).2))⟩
    · intro p hp
      exact Finset.mem_filter.2 ⟨Finset.mem_univ _, (h p).trans ((hb _).2 (Finset.mem_filter.1 hp).2)⟩
    · intro i _
      exact (eq_ix1 i).symm
    · intro p _
      rfl
  exact key _
end Count

section Loop
variable (a0 : FVec Ideal S1x20000x4 .f32) (a1 : FVec Ideal S1x20000x80 .f32) (a2 : FVec Ideal S1 .f32) (a3 : IVec S1 32) (hS : (picked a1 a2 a3).card = 4096)

/-- The reference after `n` trips. -/
theorem reached (n : ℕ) (hn : n ≤ 300) : Reached n (RefRun.seq (F := Ideal) a0 a1 n) (cand a0 a1 a2 a3 hS) := by
  induction n with
  | zero => exact ⟨init_stands a0 a1 a2 a3 hS, init_valid a0 a1 a2 a3 hS, fun i _ hi => absurd hi (Nat.not_lt_zero _), fun i hi => absurd hi (Nat.not_lt_zero _),
      fun i hi => absurd hi (Nat.not_lt_zero _), fun i hi => absurd hi (Nat.not_lt_zero _)⟩
  | succ n ih => exact reached_step n hn _ _ (ih (Nat.le_of_succ_le hn)) (cand_falling a0 a1 a2 a3 hS)

theorem ref_boxes : (RefRun.seq (F := Ideal) a0 a1 300).main_v27_6 = fun y => (cand a0 a1 a2 a3 hS).outBox (y 0).val (y 1) := by
  funext y
  obtain ⟨i, k, rfl⟩ : ∃ (i : Fin 300) (k : Fin 4), y = ix2 i k := ⟨y 0, y 1, eq_ix2 y⟩
  exact (reached a0 a1 a2 a3 hS 300 (le_refl _)).boxes i k i.isLt
theorem ref_scores : (RefRun.seq (F := Ideal) a0 a1 300).main_v27_7 = fun y => (cand a0 a1 a2 a3 hS).outScore (y 0).val := by
  funext y
  obtain ⟨i, rfl⟩ : ∃ i : Fin 300, y = ix1 i := ⟨y 0, eq_ix1 y⟩
  exact (reached a0 a1 a2 a3 hS 300 (le_refl _)).scores i i.isLt
theorem ref_classes : (RefRun.seq (F := Ideal) a0 a1 300).main_v27_8 = fun y => (cand a0 a1 a2 a3 hS).outClass (y 0).val := by
  funext y
  obtain ⟨i, rfl⟩ : ∃ i : Fin 300, y = ix1 i := ⟨y 0, eq_ix1 y⟩
  exact (reached a0 a1 a2 a3 hS 300 (le_refl _)).classes i i.isLt
theorem ref_count : R_main_v30 (RefRun.seq (F := Ideal) a0 a1 300) = fun _ => BitVec.ofNat 32 ((cand a0 a1 a2 a3 hS).count 300) :=
  funext fun y => count_at _ _ (fun i => (reached a0 a1 a2 a3 hS 300 (le_refl _)).flags i i.isLt) y
end Loop

end Cert.Nms
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelValue
public import proofs.«01_k».proof.Proof.RefLoop
public import Idealize.ShloMosaic.Adequacy
public import Idealize.ShloMosaic.Init

@[expose] public section

noncomputable section

namespace Cert.Proof

open Idealize.ShloMosaic Idealize.SL.Sem Cert.Kernel

/-- The kernel's results are the reference's: both are the suppression model's, over the same candidates. -/
theorem equation [Cert.Pre_selects_k.Facts] : Cert.algebraic_KernelIdeal_ReferenceIdeal_pre_selects_k := by
  intro m g m' g' hpre hmem
  have hS : ∀ c, (Cert.Nms.picked (Cert.Nms.arg1 m c) (Cert.Nms.arg2 m c) (Cert.Nms.arg3 m c)).card = 4096 :=
    fun c => Cert.Nms.card_of_pre inferInstance _ _ _ _ (hpre c)
  refine ⟨fun c => (Cert.KernelIdeal.Gen.dats m 0 c).arrAt 4 Cert.KernelIdeal.cfg0.N, fun c => (Cert.KernelIdeal.Gen.dats m 0 c).arrAt 5 Cert.KernelIdeal.cfg0.N,
    fun c => (Cert.KernelIdeal.Gen.dats m 0 c).arrAt 6 Cert.KernelIdeal.cfg0.N, fun c => (Cert.KernelIdeal.Gen.dats m 0 c).arrAt 7 Cert.KernelIdeal.cfg0.N,
    Cert.KernelIdeal.Value.run_blocks m g, (θ_run _ _ _).mono (fun r h c => ?_) (Cert.Nms.RefRun.run m' g')⟩
  obtain ⟨h0, h1, h2, h3, h4⟩ := h c
  obtain ⟨e0, e1, _, _⟩ := hmem c
  have el : Cert.Nms.RefRun.last m' c = Cert.Nms.RefRun.seq (F := Ideal) (Cert.Nms.arg0 m c) (Cert.Nms.arg1 m c) 300 :=
    congr (congrArg (fun x y => Cert.Nms.RefRun.seq (F := Ideal) x y 300) e0) e1
  rw [el] at h0 h1 h2 h3
  exact ⟨h0.trans ((Cert.Nms.ref_boxes _ _ _ _ (hS c)).trans (Cert.Nms.kernel_boxes m c (hS c)).symm),
    h1.trans ((Cert.Nms.ref_scores _ _ _ _ (hS c)).trans (Cert.Nms.kernel_scores m c (hS c)).symm),
    h2.trans ((Cert.Nms.ref_classes _ _ _ _ (hS c)).trans (Cert.Nms.kernel_classes m c (hS c)).symm),
    h3.trans ((Cert.Nms.ref_count _ _ _ _ (hS c)).trans (Cert.Nms.kernel_count m c (hS c)).symm), h4⟩

theorem claim : Cert.Claim :=
  ⟨Cert.Kernel.Gen.facts, Cert.KernelIdeal.Gen.facts, Cert.ReferenceIdeal.Gen.facts, Cert.Nms.pre_facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2.2.2.2,
      Idealize.ShloMosaic.sem_eq_zero_of_no_sems (by decide) r.2⟩) (Cert.Nms.RefRun.run m ρ),
    fun m ρ _ => (θ_run _ _ _).mono (fun r h => ⟨fun c => (h c).2.2.2.2,
      Idealize.ShloMosaic.sem_eq_zero_of_no_sems (by decide) r.2⟩) (Cert.Nms.RefRun.run m ρ),
    trivial,
    @equation Cert.Nms.pre_facts⟩

end Cert.Proof
end
